-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S16384x128 : Shape := ⟨2, ![16384, 128]⟩
abbrev S100000x128 : Shape := ⟨2, ![100000, 128]⟩
abbrev S256x1x7 : Shape := ⟨3, ![256, 1, 7]⟩
abbrev S128x256 : Shape := ⟨2, ![128, 256]⟩
abbrev S128 : Shape := ⟨1, ![128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S16384x128 .f32) (main_arg2 : FVec F S100000x128 .f32) (main_arg3 : FVec F S256x1x7 .f32) (main_arg4 : FVec F S128x256 .f32) (main_arg5 : FVec F S128 .f32) (main_arg6 : FVec F S128 .f32) (main_arg7 : FVec F S128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S16384x128 : Shape := ⟨2, ![16384, 128]⟩
abbrev S100000x128 : Shape := ⟨2, ![100000, 128]⟩
abbrev S256x1x7 : Shape := ⟨3, ![256, 1, 7]⟩
abbrev S128x256 : Shape := ⟨2, ![128, 256]⟩
abbrev S128 : Shape := ⟨1, ![128]⟩
abbrev S256x1x1 : Shape := ⟨3, ![256, 1, 1]⟩
abbrev S256 : Shape := ⟨1, ![256]⟩
abbrev S1x256 : Shape := ⟨2, ![1, 256]⟩
abbrev S100000 : Shape := ⟨1, ![100000]⟩
abbrev S512 : Shape := ⟨1, ![512]⟩
abbrev S_ : Shape := ⟨0, ![]⟩
abbrev S512x128 : Shape := ⟨2, ![512, 128]⟩
abbrev S16 : Shape := ⟨1, ![16]⟩
abbrev S1x128 : Shape := ⟨2, ![1, 128]⟩
abbrev S4096x128 : Shape := ⟨2, ![4096, 128]⟩
abbrev S128x128 : Shape := ⟨2, ![128, 128]⟩
abbrev S4096 : Shape := ⟨1, ![4096]⟩
abbrev S4096x1 : Shape := ⟨2, ![4096, 1]⟩
abbrev S20000x128 : Shape := ⟨2, ![20000, 128]⟩
abbrev S4x128 : Shape := ⟨2, ![4, 128]⟩
abbrev S1x16 : Shape := ⟨2, ![1, 16]⟩

abbrev nBuf : Table → Nat
  | .hbm => 19
  | .local .tc .vmem => 15
  | .local .scVector .vmem => 8
  | _ => 0

abbrev bufTy : (tb : Table) → Fin (nBuf tb) → BufTy
  | .hbm, ⟨0, _⟩ => ⟨S16384, .i32⟩
  | .hbm, ⟨1, _⟩ => ⟨S16384x128, .f32⟩
  | .hbm, ⟨2, _⟩ => ⟨S100000x128, .f32⟩
  | .hbm, ⟨3, _⟩ => ⟨S256x1x7, .f32⟩
  | .hbm, ⟨4, _⟩ => ⟨S128x256, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S256x1x1, .f32⟩
  | .hbm, ⟨9, _⟩ => ⟨S256, .f32⟩
  | .hbm, ⟨10, _⟩ => ⟨S1x256, .f32⟩
  | .hbm, ⟨11, _⟩ => ⟨S16384x128, .f32⟩
  | .hbm, ⟨12, _⟩ => ⟨S100000, .i32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S16384x128, .f32⟩
  | .hbm, ⟨17, _⟩ => ⟨S100000x128, .f32⟩
  | .hbm, ⟨18, _⟩ => ⟨S100000x128, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S1x256, .f32⟩
  | .local .tc .vmem, ⟨5, _⟩ => ⟨S128x256, .f32⟩
  | .local .tc .vmem, ⟨6, _⟩ => ⟨S1x128, .f32⟩
  | .local .tc .vmem, ⟨7, _⟩ => ⟨S1x128, .f32⟩
  | .local .tc .vmem, ⟨8, _⟩ => ⟨S1x128, .f32⟩
  | .local .tc .vmem, ⟨9, _⟩ => ⟨S4096x128, .f32⟩
  | .local .tc .vmem, ⟨10, _⟩ => ⟨S4096x128, .f32⟩
  | .local .tc .vmem, ⟨11, _⟩ => ⟨S20000x128, .f32⟩
  | .local .tc .vmem, ⟨12, _⟩ => ⟨S20000x128, .f32⟩
  | .local .tc .vmem, ⟨13, _⟩ => ⟨S20000x128, .f32⟩
  | .local .tc .vmem, ⟨14, _⟩ => ⟨S20000x128, .f32⟩
  | .local .scVector .vmem, ⟨0, _⟩ => ⟨S512, .i32⟩
  | .local .scVector .vmem, ⟨1, _⟩ => ⟨S512x128, .f32⟩
  | .local .scVector .vmem, ⟨2, _⟩ => ⟨S100000, .i32⟩
  | .local .scVector .vmem, ⟨3, _⟩ => ⟨S16384, .i32⟩
  | .local .scVector .vmem, ⟨4, _⟩ => ⟨S512, .i32⟩
  | .local .scVector .vmem, ⟨5, _⟩ => ⟨S512, .i32⟩
  | .local .scVector .vmem, ⟨6, _⟩ => ⟨S4x128, .i32⟩
  | .local .scVector .vmem, ⟨7, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_arg2_scv : Ref sig .scVector := ⟨.hbm, 2, rfl⟩
abbrev main_arg0_scv : Ref sig .scVector := ⟨.hbm, 0, rfl⟩
abbrev main_v3_0_scv : Ref sig .scVector := ⟨.hbm, 11, rfl⟩
abbrev main_v3_1_scv : Ref sig .scVector := ⟨.hbm, 12, rfl⟩
abbrev main_v7_scv : Ref sig .scVector := ⟨.hbm, 16, rfl⟩
abbrev main_v9_scv : Ref sig .scVector := ⟨.hbm, 18, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc0_scratch0 : Ref sig .scVector := ⟨.vmem, 0, rfl⟩
abbrev cc0_scoped1 : Ref sig .scVector := ⟨.vmem, 1, rfl⟩
abbrev cc0_scoped3 : Ref sig .scVector := ⟨.vmem, 2, rfl⟩
abbrev cc0_scoped4 : Ref sig .scVector := ⟨.vmem, 3, rfl⟩
abbrev cc3_scratch0 : Ref sig .scVector := ⟨.vmem, 4, rfl⟩
abbrev cc3_scratch1 : Ref sig .scVector := ⟨.vmem, 5, rfl⟩
abbrev cc3_scratch2 : Ref sig .scVector := ⟨.vmem, 6, rfl⟩
abbrev cc3_scratch3 : Ref sig .scVector := ⟨.vmem, 7, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem1_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_5_r2 : BitVec 32 := 0#32
  ![v2.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_3_r3 : BitVec 32 := 0#32
  let c64_i32_r3 : BitVec 32 := 64#32
  let v7_r3 : BitVec 32 := Scalar.addi c0_i32_3_r3 c64_i32_r3
  let c1_i32_r3 : BitVec 32 := 1#32
  ⟨c0_i32_3_r3, v7_r3, c1_i32_r3⟩
def k0_off3 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_r3 : BitVec 32 := 256#32
  let v9_r3 : BitVec 32 := Scalar.muli arg8_r3 c256_i32_r3
  let c0_i32_5_r3 : BitVec 32 := 0#32
  let v10_r3 : BitVec 32 := Scalar.addi v9_r3 c0_i32_5_r3
  let v11_r3 : Index := Scalar.indexCast v10_r3
  ![v11_r3.toNat]

def k0_chk1 (i : grid0.Coords) (v12_r3 : IVec S16 32) : Prop :=
  (∀ (k0_h1 : k0_cond1 i = 1#1), ∀ a x, ((![v12_r3] : Fin 1 → IVec S16 32) a x).toNat < S100000.size a)
theorem k0_idx1_inb : ∀ (i : grid0.Coords) (v12_r3 : IVec S16 32) (k0_hw1 : k0_chk1 i v12_r3), ∀ (k0_h1 : k0_cond1 i = 1#1), ∀ a x, ((![v12_r3] : Fin 1 → IVec S16 32) a x).toNat < S100000.size a := fun i v12_r3 k0_hw1 k0_h1 => k0_hw1 k0_h1
def k0_off4 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_6_r3 : BitVec 32 := 256#32
  let v16_r3 : BitVec 32 := Scalar.muli arg8_r3 c256_i32_6_r3
  let c16_i32_r3 : BitVec 32 := 16#32
  let v17_r3 : BitVec 32 := Scalar.addi v16_r3 c16_i32_r3
  let v18_r3 : Index := Scalar.indexCast v17_r3
  ![v18_r3.toNat]

def k0_chk2 (i : grid0.Coords) (v19_r3 : IVec S16 32) : Prop :=
  (∀ (k0_h1 : k0_cond1 i = 1#1), ∀ a x, ((![v19_r3] : Fin 1 → IVec S16 32) a x).toNat < S100000.size a)
theorem k0_idx2_inb : ∀ (i : grid0.Coords) (v19_r3 : IVec S16 32) (k0_hw2 : k0_chk2 i v19_r3), ∀ (k0_h1 : k0_cond1 i = 1#1), ∀ a x, ((![v19_r3] : Fin 1 → IVec S16 32) a x).toNat < S100000.size a := fun i v19_r3 k0_hw2 k0_h1 => k0_hw2 k0_h1
def k0_off5 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_10_r3 : BitVec 32 := 256#32
  let v23_r3 : BitVec 32 := Scalar.muli arg8_r3 c256_i32_10_r3
  let c32_i32_r3 : BitVec 32 := 32#32
  let v24_r3 : BitVec 32 := Scalar.addi v23_r3 c32_i32_r3
  let v25_r3 : Index := Scalar.indexCast v24_r3
  ![v25_r3.toNat]

def k0_chk3 (i : grid0.Coords) (v26_r3 : IVec S16 32) : Prop :=
  (∀ (k0_h1 : k0_cond1 i = 1#1), ∀ a x, ((![v26_r3] : Fin 1 → IVec S16 32) a x).toNat < S100000.size a)
theorem k0_idx3_inb : ∀ (i : grid0.Coords) (v26_r3 : IVec S16 32) (k0_hw3 : k0_chk3 i v26_r3), ∀ (k0_h1 : k0_cond1 i = 1#1), ∀ a x, ((![v26_r3] : Fin 1 → IVec S16 32) a x).toNat < S100000.size a := fun i v26_r3 k0_hw3 k0_h1 => k0_hw3 k0_h1
def k0_off6 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_14_r3 : BitVec 32 := 256#32
  let v30_r3 : BitVec 32 := Scalar.muli arg8_r3 c256_i32_14_r3
  let c48_i32_r3 : BitVec 32 := 48#32
  let v31_r3 : BitVec 32 := Scalar.addi v30_r3 c48_i32_r3
  let v32_r3 : Index := Scalar.indexCast v31_r3
  ![v32_r3.toNat]

def k0_chk4 (i : grid0.Coords) (v33_r3 : IVec S16 32) : Prop :=
  (∀ (k0_h1 : k0_cond1 i = 1#1), ∀ a x, ((![v33_r3] : Fin 1 → IVec S16 32) a x).toNat < S100000.size a)
theorem k0_idx4_inb : ∀ (i : grid0.Coords) (v33_r3 : IVec S16 32) (k0_hw4 : k0_chk4 i v33_r3), ∀ (k0_h1 : k0_cond1 i = 1#1), ∀ a x, ((![v33_r3] : Fin 1 → IVec S16 32) a x).toNat < S100000.size a := fun i v33_r3 k0_hw4 k0_h1 => k0_hw4 k0_h1
def k0_off7 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_18_r3 : BitVec 32 := 256#32
  let v37_r3 : BitVec 32 := Scalar.muli arg8_r3 c256_i32_18_r3
  let c64_i32_19_r3 : BitVec 32 := 64#32
  let v38_r3 : BitVec 32 := Scalar.addi v37_r3 c64_i32_19_r3
  let v39_r3 : Index := Scalar.indexCast v38_r3
  ![v39_r3.toNat]

def k0_chk5 (i : grid0.Coords) (v40_r3 : IVec S16 32) : Prop :=
  (∀ (k0_h1 : k0_cond1 i = 1#1), ∀ a x, ((![v40_r3] : Fin 1 → IVec S16 32) a x).toNat < S100000.size a)
theorem k0_idx5_inb : ∀ (i : grid0.Coords) (v40_r3 : IVec S16 32) (k0_hw5 : k0_chk5 i v40_r3), ∀ (k0_h1 : k0_cond1 i = 1#1), ∀ a x, ((![v40_r3] : Fin 1 → IVec S16 32) a x).toNat < S100000.size a := fun i v40_r3 k0_hw5 k0_h1 => k0_hw5 k0_h1
def k0_off8 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_23_r3 : BitVec 32 := 256#32
  let v44_r3 : BitVec 32 := Scalar.muli arg8_r3 c256_i32_23_r3
  let c80_i32_r3 : BitVec 32 := 80#32
  let v45_r3 : BitVec 32 := Scalar.addi v44_r3 c80_i32_r3
  let v46_r3 : Index := Scalar.indexCast v45_r3
  ![v46_r3.toNat]

def k0_chk6 (i : grid0.Coords) (v47_r3 : IVec S16 32) : Prop :=
  (∀ (k0_h1 : k0_cond1 i = 1#1), ∀ a x, ((![v47_r3] : Fin 1 → IVec S16 32) a x).toNat < S100000.size a)
theorem k0_idx6_inb : ∀ (i : grid0.Coords) (v47_r3 : IVec S16 32) (k0_hw6 : k0_chk6 i v47_r3), ∀ (k0_h1 : k0_cond1 i = 1#1), ∀ a x, ((![v47_r3] : Fin 1 → IVec S16 32) a x).toNat < S100000.size a := fun i v47_r3 k0_hw6 k0_h1 => k0_hw6 k0_h1
def k0_off9 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_27_r3 : BitVec 32 := 256#32
  let v51_r3 : BitVec 32 := Scalar.muli arg8_r3 c256_i32_27_r3
  let c96_i32_r3 : BitVec 32 := 96#32
  let v52_r3 : BitVec 32 := Scalar.addi v51_r3 c96_i32_r3
  let v53_r3 : Index := Scalar.indexCast v52_r3
  ![v53_r3.toNat]

def k0_chk7 (i : grid0.Coords) (v54_r3 : IVec S16 32) : Prop :=
  (∀ (k0_h1 : k0_cond1 i = 1#1), ∀ a x, ((![v54_r3] : Fin 1 → IVec S16 32) a x).toNat < S100000.size a)
theorem k0_idx7_inb : ∀ (i : grid0.Coords) (v54_r3 : IVec S16 32) (k0_hw7 : k0_chk7 i v54_r3), ∀ (k0_h1 : k0_cond1 i = 1#1), ∀ a x, ((![v54_r3] : Fin 1 → IVec S16 32) a x).toNat < S100000.size a := fun i v54_r3 k0_hw7 k0_h1 => k0_hw7 k0_h1
def k0_off10 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_31_r3 : BitVec 32 := 256#32
  let v58_r3 : BitVec 32 := Scalar.muli arg8_r3 c256_i32_31_r3
  let c112_i32_r3 : BitVec 32 := 112#32
  let v59_r3 : BitVec 32 := Scalar.addi v58_r3 c112_i32_r3
  let v60_r3 : Index := Scalar.indexCast v59_r3
  ![v60_r3.toNat]

def k0_chk8 (i : grid0.Coords) (v61_r3 : IVec S16 32) : Prop :=
  (∀ (k0_h1 : k0_cond1 i = 1#1), ∀ a x, ((![v61_r3] : Fin 1 → IVec S16 32) a x).toNat < S100000.size a)
theorem k0_idx8_inb : ∀ (i : grid0.Coords) (v61_r3 : IVec S16 32) (k0_hw8 : k0_chk8 i v61_r3), ∀ (k0_h1 : k0_cond1 i = 1#1), ∀ a x, ((![v61_r3] : Fin 1 → IVec S16 32) a x).toNat < S100000.size a := fun i v61_r3 k0_hw8 k0_h1 => k0_hw8 k0_h1
def k0_off11 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_35_r3 : BitVec 32 := 256#32
  let v65_r3 : BitVec 32 := Scalar.muli arg8_r3 c256_i32_35_r3
  let c128_i32_r3 : BitVec 32 := 128#32
  let v66_r3 : BitVec 32 := Scalar.addi v65_r3 c128_i32_r3
  let v67_r3 : Index := Scalar.indexCast v66_r3
  ![v67_r3.toNat]

def k0_chk9 (i : grid0.Coords) (v68_r3 : IVec S16 32) : Prop :=
  (∀ (k0_h1 : k0_cond1 i = 1#1), ∀ a x, ((![v68_r3] : Fin 1 → IVec S16 32) a x).toNat < S100000.size a)
theorem k0_idx9_inb : ∀ (i : grid0.Coords) (v68_r3 : IVec S16 32) (k0_hw9 : k0_chk9 i v68_r3), ∀ (k0_h1 : k0_cond1 i = 1#1), ∀ a x, ((![v68_r3] : Fin 1 → IVec S16 32) a x).toNat < S100000.size a := fun i v68_r3 k0_hw9 k0_h1 => k0_hw9 k0_h1
def k0_off12 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_39_r3 : BitVec 32 := 256#32
  let v72_r3 : BitVec 32 := Scalar.muli arg8_r3 c256_i32_39_r3
  let c144_i32_r3 : BitVec 32 := 144#32
  let v73_r3 : BitVec 32 := Scalar.addi v72_r3 c144_i32_r3
  let v74_r3 : Index := Scalar.indexCast v73_r3
  ![v74_r3.toNat]

def k0_chk10 (i : grid0.Coords) (v75_r3 : IVec S16 32) : Prop :=
  (∀ (k0_h1 : k0_cond1 i = 1#1), ∀ a x, ((![v75_r3] : Fin 1 → IVec S16 32) a x).toNat < S100000.size a)
theorem k0_idx10_inb : ∀ (i : grid0.Coords) (v75_r3 : IVec S16 32) (k0_hw10 : k0_chk10 i v75_r3), ∀ (k0_h1 : k0_cond1 i = 1#1), ∀ a x, ((![v75_r3] : Fin 1 → IVec S16 32) a x).toNat < S100000.size a := fun i v75_r3 k0_hw10 k0_h1 => k0_hw10 k0_h1
def k0_off13 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_43_r3 : BitVec 32 := 256#32
  let v79_r3 : BitVec 32 := Scalar.muli arg8_r3 c256_i32_43_r3
  let c160_i32_r3 : BitVec 32 := 160#32
  let v80_r3 : BitVec 32 := Scalar.addi v79_r3 c160_i32_r3
  let v81_r3 : Index := Scalar.indexCast v80_r3
  ![v81_r3.toNat]

def k0_chk11 (i : grid0.Coords) (v82_r3 : IVec S16 32) : Prop :=
  (∀ (k0_h1 : k0_cond1 i = 1#1), ∀ a x, ((![v82_r3] : Fin 1 → IVec S16 32) a x).toNat < S100000.size a)
theorem k0_idx11_inb : ∀ (i : grid0.Coords) (v82_r3 : IVec S16 32) (k0_hw11 : k0_chk11 i v82_r3), ∀ (k0_h1 : k0_cond1 i = 1#1), ∀ a x, ((![v82_r3] : Fin 1 → IVec S16 32) a x).toNat < S100000.size a := fun i v82_r3 k0_hw11 k0_h1 => k0_hw11 k0_h1
def k0_off14 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_47_r3 : BitVec 32 := 256#32
  let v86_r3 : BitVec 32 := Scalar.muli arg8_r3 c256_i32_47_r3
  let c176_i32_r3 : BitVec 32 := 176#32
  let v87_r3 : BitVec 32 := Scalar.addi v86_r3 c176_i32_r3
  let v88_r3 : Index := Scalar.indexCast v87_r3
  ![v88_r3.toNat]

def k0_chk12 (i : grid0.Coords) (v89_r3 : IVec S16 32) : Prop :=
  (∀ (k0_h1 : k0_cond1 i = 1#1), ∀ a x, ((![v89_r3] : Fin 1 → IVec S16 32) a x).toNat < S100000.size a)
theorem k0_idx12_inb : ∀ (i : grid0.Coords) (v89_r3 : IVec S16 32) (k0_hw12 : k0_chk12 i v89_r3), ∀ (k0_h1 : k0_cond1 i = 1#1), ∀ a x, ((![v89_r3] : Fin 1 → IVec S16 32) a x).toNat < S100000.size a := fun i v89_r3 k0_hw12 k0_h1 => k0_hw12 k0_h1
def k0_off15 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_51_r3 : BitVec 32 := 256#32
  let v93_r3 : BitVec 32 := Scalar.muli arg8_r3 c256_i32_51_r3
  let c192_i32_r3 : BitVec 32 := 192#32
  let v94_r3 : BitVec 32 := Scalar.addi v93_r3 c192_i32_r3
  let v95_r3 : Index := Scalar.indexCast v94_r3
  ![v95_r3.toNat]

def k0_chk13 (i : grid0.Coords) (v96_r3 : IVec S16 32) : Prop :=
  (∀ (k0_h1 : k0_cond1 i = 1#1), ∀ a x, ((![v96_r3] : Fin 1 → IVec S16 32) a x).toNat < S100000.size a)
theorem k0_idx13_inb : ∀ (i : grid0.Coords) (v96_r3 : IVec S16 32) (k0_hw13 : k0_chk13 i v96_r3), ∀ (k0_h1 : k0_cond1 i = 1#1), ∀ a x, ((![v96_r3] : Fin 1 → IVec S16 32) a x).toNat < S100000.size a := fun i v96_r3 k0_hw13 k0_h1 => k0_hw13 k0_h1
def k0_off16 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_55_r3 : BitVec 32 := 256#32
  let v100_r3 : BitVec 32 := Scalar.muli arg8_r3 c256_i32_55_r3
  let c208_i32_r3 : BitVec 32 := 208#32
  let v101_r3 : BitVec 32 := Scalar.addi v100_r3 c208_i32_r3
  let v102_r3 : Index := Scalar.indexCast v101_r3
  ![v102_r3.toNat]

def k0_chk14 (i : grid0.Coords) (v103_r3 : IVec S16 32) : Prop :=
  (∀ (k0_h1 : k0_cond1 i = 1#1), ∀ a x, ((![v103_r3] : Fin 1 → IVec S16 32) a x).toNat < S100000.size a)
theorem k0_idx14_inb : ∀ (i : grid0.Coords) (v103_r3 : IVec S16 32) (k0_hw14 : k0_chk14 i v103_r3), ∀ (k0_h1 : k0_cond1 i = 1#1), ∀ a x, ((![v103_r3] : Fin 1 → IVec S16 32) a x).toNat < S100000.size a := fun i v103_r3 k0_hw14 k0_h1 => k0_hw14 k0_h1
def k0_off17 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_59_r3 : BitVec 32 := 256#32
  let v107_r3 : BitVec 32 := Scalar.muli arg8_r3 c256_i32_59_r3
  let c224_i32_r3 : BitVec 32 := 224#32
  let v108_r3 : BitVec 32 := Scalar.addi v107_r3 c224_i32_r3
  let v109_r3 : Index := Scalar.indexCast v108_r3
  ![v109_r3.toNat]

def k0_chk15 (i : grid0.Coords) (v110_r3 : IVec S16 32) : Prop :=
  (∀ (k0_h1 : k0_cond1 i = 1#1), ∀ a x, ((![v110_r3] : Fin 1 → IVec S16 32) a x).toNat < S100000.size a)
theorem k0_idx15_inb : ∀ (i : grid0.Coords) (v110_r3 : IVec S16 32) (k0_hw15 : k0_chk15 i v110_r3), ∀ (k0_h1 : k0_cond1 i = 1#1), ∀ a x, ((![v110_r3] : Fin 1 → IVec S16 32) a x).toNat < S100000.size a := fun i v110_r3 k0_hw15 k0_h1 => k0_hw15 k0_h1
def k0_off18 (k0_t1 : Fin k0_t1_loop.trips) : Fin 1 → Nat :=
  let c0_i32_3_r3 : BitVec 32 := 0#32
  let c1_i32_r3 : BitVec 32 := 1#32
  let arg8_r3 : BitVec 32 := Scf.iv c0_i32_3_r3 c1_i32_r3 k0_t1
  let c256_i32_63_r3 : BitVec 32 := 256#32
  let v114_r3 : BitVec 32 := Scalar.muli arg8_r3 c256_i32_63_r3
  let c240_i32_r3 : BitVec 32 := 240#32
  let v115_r3 : BitVec 32 := Scalar.addi v114_r3 c240_i32_r3
  let v116_r3 : Index := Scalar.indexCast v115_r3
  ![v116_r3.toNat]

def k0_chk16 (i : grid0.Coords) (v117_r3 : IVec S16 32) : Prop :=
  (∀ (k0_h1 : k0_cond1 i = 1#1), ∀ a x, ((![v117_r3] : Fin 1 → IVec S16 32) a x).toNat < S100000.size a)
theorem k0_idx16_inb : ∀ (i : grid0.Coords) (v117_r3 : IVec S16 32) (k0_hw16 : k0_chk16 i v117_r3), ∀ (k0_h1 : k0_cond1 i = 1#1), ∀ a x, ((![v117_r3] : Fin 1 → IVec S16 32) a x).toNat < S100000.size a := fun i v117_r3 k0_hw16 k0_h1 => k0_hw16 k0_h1
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384 : Shape := ⟨1, ![16384]⟩
abbrev S16384x128 : Shape := ⟨2, ![16384, 128]⟩
abbrev S100000x128 : Shape := ⟨2, ![100000, 128]⟩
abbrev S256x1x7 : Shape := ⟨3, ![256, 1, 7]⟩
abbrev S128x256 : Shape := ⟨2, ![128, 256]⟩
abbrev S128 : Shape := ⟨1, ![128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x256 : Shape := ⟨2, ![16384, 256]⟩
abbrev S16384x256x1 : Shape := ⟨3, ![16384, 256, 1]⟩
abbrev S16384x256x7 : Shape := ⟨3, ![16384, 256, 7]⟩
abbrev S256x1x1 : Shape := ⟨3, ![256, 1, 1]⟩
abbrev S256 : Shape := ⟨1, ![256]⟩
abbrev S1x256 : Shape := ⟨2, ![1, 256]⟩
abbrev S1x128 : Shape := ⟨2, ![1, 128]⟩

abbrev nBuf : Space → Nat
  | .hbm => 136
  | .vmem => 0
  | .smem => 0
  | _ => 0

abbrev hbmTy0_0 (i : Nat) : BufTy := match i % 128 with
  | 0 => ⟨S16384, .i32⟩
  | 1 => ⟨S16384x128, .f32⟩
  | 2 => ⟨S100000x128, .f32⟩
  | 3 => ⟨S256x1x7, .f32⟩
  | 4 => ⟨S128x256, .f32⟩
  | 5 => ⟨S128, .f32⟩
  | 6 => ⟨S128, .f32⟩
  | 7 => ⟨S128, .f32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S1, .i32⟩
  | 17 => ⟨S_, .i32⟩
  | 18 => ⟨S16384x1, .i32⟩
  | 19 => ⟨S16384x1, .i1⟩
  | 20 => ⟨S1x1, .i32⟩
  | 21 => ⟨S16384x1, .i32⟩
  | 22 => ⟨S16384x1, .i1⟩
  | 23 => ⟨S16384x1, .i1⟩
  | 24 => ⟨S_, .i1⟩
  | 25 => ⟨S16384, .i1⟩
  | 26 => ⟨S16384x128, .f32⟩
  | 27 => ⟨S16384x128, .i1⟩
  | 28 => ⟨S_, .f32⟩
  | 29 => ⟨S16384x128, .f32⟩
  | 30 => ⟨S16384x128, .f32⟩
  | 31 => ⟨S16384x256, .f32⟩
  | 32 => ⟨S16384x256x1, .f32⟩
  | 33 => ⟨S_, .i32⟩
  | 34 => ⟨S_, .f32⟩
  | 35 => ⟨S16384x256x7, .f32⟩
  | 36 => ⟨S16384x256x1, .f32⟩
  | 37 => ⟨S16384x256, .f32⟩
  | 38 => ⟨S256x1x1, .f32⟩
  | 39 => ⟨S256, .f32⟩
  | 40 => ⟨S1x256, .f32⟩
  | 41 => ⟨S16384x256, .f32⟩
  | 42 => ⟨S16384x256, .f32⟩
  | 43 => ⟨S_, .f32⟩
  | 44 => ⟨S16384x256, .f32⟩
  | 45 => ⟨S16384x256, .f32⟩
  | 46 => ⟨S16384x256x1, .f32⟩
  | 47 => ⟨S16384x256, .f32⟩
  | 48 => ⟨S256x1x1, .f32⟩
  | 49 => ⟨S256, .f32⟩
  | 50 => ⟨S1x256, .f32⟩
  | 51 => ⟨S16384x256, .f32⟩
  | 52 => ⟨S16384x256, .f32⟩
  | 53 => ⟨S16384x256, .f32⟩
  | 54 => ⟨S16384x256x1, .f32⟩
  | 55 => ⟨S16384x256, .f32⟩
  | 56 => ⟨S256x1x1, .f32⟩
  | 57 => ⟨S256, .f32⟩
  | 58 => ⟨S1x256, .f32⟩
  | 59 => ⟨S16384x256, .f32⟩
  | 60 => ⟨S16384x256, .f32⟩
  | 61 => ⟨S16384x256, .f32⟩
  | 62 => ⟨S16384x256x1, .f32⟩
  | 63 => ⟨S16384x256, .f32⟩
  | 64 => ⟨S256x1x1, .f32⟩
  | 65 => ⟨S256, .f32⟩
  | 66 => ⟨S1x256, .f32⟩
  | 67 => ⟨S16384x256, .f32⟩
  | 68 => ⟨S16384x256, .f32⟩
  | 69 => ⟨S16384x256, .f32⟩
  | 70 => ⟨S16384x256x1, .f32⟩
  | 71 => ⟨S16384x256, .f32⟩
  | 72 => ⟨S256x1x1, .f32⟩
  | 73 => ⟨S256, .f32⟩
  | 74 => ⟨S1x256, .f32⟩
  | 75 => ⟨S16384x256, .f32⟩
  | 76 => ⟨S16384x256, .f32⟩
  | 77 => ⟨S16384x256, .f32⟩
  | 78 => ⟨S16384x256x1, .f32⟩
  | 79 => ⟨S16384x256, .f32⟩
  | 80 => ⟨S256x1x1, .f32⟩
  | 81 => ⟨S256, .f32⟩
  | 82 => ⟨S1x256, .f32⟩
  | 83 => ⟨S16384x256, .f32⟩
  | 84 => ⟨S16384x256, .f32⟩
  | 85 => ⟨S16384x256, .f32⟩
  | 86 => ⟨S16384x256x1, .f32⟩
  | 87 => ⟨S16384x256, .f32⟩
  | 88 => ⟨S256x1x1, .f32⟩
  | 89 => ⟨S256, .f32⟩
  | 90 => ⟨S1x256, .f32⟩
  | 91 => ⟨S16384x256, .f32⟩
  | 92 => ⟨S16384x256, .f32⟩
  | 93 => ⟨S16384x256, .f32⟩
  | 94 => ⟨S16384x128, .f32⟩
  | 95 => ⟨S1x128, .f32⟩
  | 96 => ⟨S16384x128, .f32⟩
  | 97 => ⟨S16384x128, .f32⟩
  | 98 => ⟨S_, .f32⟩
  | 99 => ⟨S16384, .f32⟩
  | 100 => ⟨S16384x1, .f32⟩
  | 101 => ⟨S_, .f32⟩
  | 102 => ⟨S16384x1, .f32⟩
  | 103 => ⟨S16384x1, .f32⟩
  | 104 => ⟨S16384x128, .f32⟩
  | 105 => ⟨S16384x128, .f32⟩
  | 106 => ⟨S16384x128, .f32⟩
  | 107 => ⟨S_, .f32⟩
  | 108 => ⟨S16384, .f32⟩
  | 109 => ⟨S16384x1, .f32⟩
  | 110 => ⟨S_, .f32⟩
  | 111 => ⟨S16384x1, .f32⟩
  | 112 => ⟨S16384x1, .f32⟩
  | 113 => ⟨S16384x128, .f32⟩
  | 114 => ⟨S16384x128, .f32⟩
  | 115 => ⟨S_, .f32⟩
  | 116 => ⟨S16384x1, .f32⟩
  | 117 => ⟨S16384x1, .f32⟩
  | 118 => ⟨S16384x1, .f32⟩
  | 119 => ⟨S16384x128, .f32⟩
  | 120 => ⟨S16384x128, .f32⟩
  | 121 => ⟨S1x128, .f32⟩
  | 122 => ⟨S16384x128, .f32⟩
  | 123 => ⟨S16384x128, .f32⟩
  | 124 => ⟨S1x128, .f32⟩
  | 125 => ⟨S16384x128, .f32⟩
  | 126 => ⟨S16384x128, .f32⟩
  | 127 => ⟨S_, .i32⟩
  | _ => ⟨S16384, .i32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S100000x128, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_c : Ref sig .tc := ⟨.hbm, 33, rfl⟩
abbrev main_call1_v0 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_0 : Ref sig .tc := ⟨.hbm, 98, rfl⟩
abbrev main_v65 : Ref sig .tc := ⟨.hbm, 99, rfl⟩
abbrev main_v66 : Ref sig .tc := ⟨.hbm, 100, rfl⟩
abbrev main_cst_1 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_2 : Ref sig .tc := ⟨.hbm, 107, rfl⟩
abbrev main_v72 : Ref sig .tc := ⟨.hbm, 108, rfl⟩
abbrev main_v73 : Ref sig .tc := ⟨.hbm, 109, rfl⟩
abbrev main_cst_3 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_4 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_5 : Ref sig .tc := ⟨.hbm, 127, rfl⟩
abbrev main_v89 : Ref sig .tc := ⟨.hbm, 128, rfl⟩
abbrev main_v90 : Ref sig .tc := ⟨.hbm, 129, rfl⟩
abbrev main_c_6 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]
-- ==== Proof.Winner.lean ====
/- The winner table: which position of the index list wrote a table row last.

   The first SparseCore call walks the 16384 indices sixteen at a time and stores each position at
   the index it holds, with only the last of equal indices in a chunk switched on. `Upto id n w` says
   what the table `w` holds once the first `n` positions are done: a position that no later position
   (below `n`) repeats is what the table holds at its index. One chunk's masked store takes `Upto n`
   to `Upto (n + 16)`. -/
module

public import proofs.«01_k».proof.Proof.Gen.KernelIdeal

@[expose] public section

noncomputable section

namespace Cert.Proof.Winner

open Idealize.ShloMosaic Cert.KernelIdeal

/-- After the first `n` positions: a position none of the later ones repeats is the entry at its index. -/
def Upto (id : ℕ → ℕ) (n : ℕ) (w : S100000.Idx → BitVec 32) : Prop :=
  ∀ i, i < n → (∀ i', i < i' → i' < n → id i' ≠ id i) → ∀ j : S100000.Idx, (j 0).val = id i → w j = BitVec.ofNat 32 i

theorem upto_zero (id : ℕ → ℕ) (w : S100000.Idx → BitVec 32) : Upto id 0 w := fun i hi => absurd hi (Nat.not_lt_zero i)

/-! ## A fold of masked writes -/

section Fold

variable {ι κ α : Type} (m : ι → Prop) [DecidablePred m] (P : ι → κ → Prop) [∀ k j, Decidable (P k j)] (v : ι → α)

/-- One masked write into a function. -/
def put (g : κ → α) (k : ι) : κ → α := if m k then (fun j => if P k j then v k else g j) else g

theorem fold_keep (L : List ι) (f : κ → α) (j : κ) (h : ∀ k ∈ L, ¬(m k ∧ P k j)) : L.foldl (put m P v) f j = f j := by
  induction L generalizing f with
  | nil => rfl
  | cons k L ih =>
    rw [List.foldl_cons, ih _ fun k' hk' => h k' (List.mem_cons_of_mem _ hk')]
    have hk := h k List.mem_cons_self
    by_cases hm : m k
    · simp only [put, if_pos hm]; exact if_neg fun hP => hk ⟨hm, hP⟩
    · simp only [put, if_neg hm]

theorem fold_last (L : List ι) (f : κ → α) (j : κ) (k : ι) (L₁ L₂ : List ι) (hL : L = L₁ ++ k :: L₂) (hm : m k) (hP : P k j)
    (h : ∀ k' ∈ L₂, ¬(m k' ∧ P k' j)) : L.foldl (put m P v) f j = v k := by
  subst hL
  rw [List.foldl_append, List.foldl_cons, fold_keep m P v L₂ _ j h]
  simp only [put, if_pos hm]; exact if_pos hP

end Fold

/-- In an increasing list split at `k`, what follows `k` is larger. -/
theorem lt_of_split {n : ℕ} (k : Fin n) (L₁ L₂ : List (Fin n)) (h : List.finRange n = L₁ ++ k :: L₂) (k' : Fin n) (hk' : k' ∈ L₂) : k < k' := by
  have hp : (List.finRange n).Pairwise (· < ·) := List.pairwise_lt_finRange n
  rw [h] at hp
  exact (List.pairwise_cons.mp (List.pairwise_append.mp hp).2.1).1 k' hk'

/-! ## One chunk -/

theorem ofLane_zero (k : Fin 16) : ((Shape.ofLane (d := ![16]) k : S16.Idx) 0).val = k.val := rfl

/-- The row-major position of a lane of a sixteen-vector is the lane. -/
theorem pos_lane (x : S16.Idx) : (S16.rowMajor x).val = (x 0).val := Shape.rowMajor_val_one x

/-- The masked store into the table, as a fold of masked writes over the lanes. -/
theorem storeIdx_fold {F : FTy → Type} [FloatOps F] (w : S100000.Idx → BitVec 32) (idxs : Fin 1 → IVec S16 32) (pay : S16.Idx → BitVec 32) (mask : IVec S16 1)
    (h : ∀ a x, (idxs a x).toNat < S100000.size a) :
    storeIdx (F := F) (s := S100000) (d := ![16]) (e := .i32) w idxs pay mask false h
      = (List.finRange 16).foldl (put (fun k : Fin 16 => mask (Shape.ofLane (d := ![16]) k) = 1)
          (fun (k : Fin 16) (j : S100000.Idx) => ∀ a, (j a).val = ((idxAt (s := S100000) idxs h (Shape.ofLane (d := ![16]) k)) a).val)
          (fun k => pay (Shape.ofLane (d := ![16]) k))) w := by
  unfold storeIdx put
  refine List.foldl_ext _ _ _ fun g k _ => ?_
  by_cases hm : mask (Shape.ofLane (d := ![16]) k) = 1
  · simp only [hm, if_true, Bool.false_eq_true, if_false]
  · simp only [hm, if_false]

/-- A lane that is the last of the chunk's to hold its index is switched on. -/
theorem scanCount_last (c : S16.Idx → BitVec 32) (x : S16.Idx) (h : ∀ y : S16.Idx, (x 0).val < (y 0).val → c y ≠ c x) :
    (scanCount (broadcast S16 (1#1 : BitVec 1)) c).1 x = 1 := by
  refine if_pos ⟨rfl, fun y hy hyc => h y ?_ hyc.2⟩
  have hy' : (S16.rowMajor x).val < (S16.rowMajor y).val := hy
  rwa [pos_lane, pos_lane] at hy'

/-- **One chunk of sixteen positions.** -/
theorem step (id : ℕ → ℕ) (n : ℕ) (w : S100000.Idx → BitVec 32) (c pay : S16.Idx → BitVec 32) (idxs : Fin 1 → IVec S16 32) (hidxs : idxs 0 = c)
    (mask : IVec S16 1) (hmask : mask = (scanCount (broadcast S16 (1#1 : BitVec 1)) c).1)
    (hc : ∀ x : S16.Idx, (c x).toNat = id (n + (x 0).val)) (hpay : ∀ x : S16.Idx, pay x = BitVec.ofNat 32 (n + (x 0).val))
    (h : ∀ a x, (idxs a x).toNat < S100000.size a) (hw : Upto id n w) {F : FTy → Type} [FloatOps F] :
    Upto id (n + 16) (storeIdx (F := F) (s := S100000) (d := ![16]) (e := .i32) w idxs pay mask false h) := by
  intro i hi hlast j hj
  have hP : ∀ k : Fin 16, (∀ a, (j a).val = ((idxAt (s := S100000) idxs h (Shape.ofLane (d := ![16]) k)) a).val) → id (n + k.val) = id i := by
    intro k hk
    have h0 := hk 0
    have h1 : ((idxAt (s := S100000) idxs h (Shape.ofLane (d := ![16]) k)) 0).val = (c (Shape.ofLane (d := ![16]) k)).toNat := by
      rw [← hidxs]; rfl
    have h2 := hc (Shape.ofLane (d := ![16]) k)
    rw [ofLane_zero] at h2
    omega
  rw [storeIdx_fold]
  by_cases hin : i < n
  · rw [fold_keep]
    · exact hw i hin (fun i' h1 h2 => hlast i' h1 (by omega)) j hj
    · rintro k - ⟨_, hk⟩
      exact hlast (n + k.val) (by omega) (by omega) (hP k hk)
  · obtain ⟨k, rfl⟩ : ∃ k : Fin 16, i = n + k.val := ⟨⟨i - n, by omega⟩, by simp; omega⟩
    obtain ⟨L₁, L₂, hL⟩ := List.append_of_mem (List.mem_finRange k)
    have h2 := hc (Shape.ofLane (d := ![16]) k)
    rw [ofLane_zero] at h2
    rw [fold_last _ _ _ _ _ _ k L₁ L₂ hL]
    · rw [hpay, ofLane_zero]
    · rw [hmask]
      refine scanCount_last c _ fun y hy hyc => ?_
      rw [ofLane_zero] at hy
      have hlt : (y 0).val < 16 := (y 0).isLt
      refine hlast (n + (y 0).val) (by omega) (by omega) ?_
      rw [← hc y, hyc, h2]
    · intro a
      have ha : a = 0 := Fin.eq_zero a
      subst ha
      have h1 : ((idxAt (s := S100000) idxs h (Shape.ofLane (d := ![16]) k)) 0).val = (c (Shape.ofLane (d := ![16]) k)).toNat := by
        rw [← hidxs]; rfl
      omega
    · rintro k' hk' ⟨_, hk⟩
      have hkk : k.val < k'.val := lt_of_split k L₁ L₂ hL k' hk'
      exact hlast (n + k'.val) (by omega) (by omega) (hP k' hk)

end Cert.Proof.Winner

end
-- ==== Proof.Setup.lean ====
/- What the rest of the proof is about: the program as the launch theorem sees it, the ghost state,
   the buffers' locations, the values the kernel's stages leave (over any float values), and what
   the TensorCore and the tiles hand one another around the two SparseCore calls.

   The last call's writes race: two tiles may write the same output row, at equal values. So the
   output is not dealt out to the tiles. It sits in an invariant together with, per index position,
   how much of the position's row write has happened; a tile holds the right to advance the records
   of its own positions, and hands those rights back complete. -/
module

public import proofs.«01_k».proof.Defs
public import proofs.«01_k».proof.Proof.Winner
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.Pre_in_range

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.ExclCount

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the row writes' records, the transfers' counters -/

abbrev UH : Type := URounds (GSem nD τ sig) ℕ
abbrev UP : Type := URounds (GSem nD τ sig) Unit
abbrev UU : Type := UH × (UP × (Counters × Counters))

local notation "𝕄" => MT nD τ sig (HIx 2) (Elt F) ℕ UU ℕ

abbrev EH : Emb UH (MT nD τ sig (HIx 2) (Elt F) ℕ UU ℕ) := embL

/-- The pipelines' rounds. -/
def EP : Emb UP (MT nD τ sig (HIx 2) (Elt F) ℕ UU ℕ) :=
  ((Emb.inl : Emb UP (UP × (Counters × Counters))).trans (Emb.inr : Emb (UP × (Counters × Counters)) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-- The records of the row writes. -/
def EM : UEmb Counters (MT nD τ sig (HIx 2) (Elt F) ℕ UU ℕ) :=
  (((UEmb.inl : UEmb Counters (Counters × Counters)).trans (UEmb.inr : UEmb (Counters × Counters) (UP × (Counters × Counters)))).trans
    (UEmb.inr : UEmb (UP × (Counters × Counters)) UU)).trans
    (uEmb (nD := nD) (sig := sig) (Ix := HIx 2) (Val := Elt F) (Name := ℕ) (U := UU) (Lvl := ℕ))
instance EM_landsIn : (EM : UEmb Counters 𝕄).LandsIn (upEmb : UEmb _ 𝕄) := by unfold EM; infer_instance

/-! ## The buffers -/

abbrev idsLoc (d : Dev nD) : Loc nD τ sig := (SparseCore.T d).loc main_arg0
abbrev tabLoc (d : Dev nD) : Loc nD τ sig := (SparseCore.T d).loc main_arg2
abbrev oldLoc (d : Dev nD) : Loc nD τ sig := (SparseCore.T d).loc main_v3_0
abbrev wtLoc (d : Dev nD) : Loc nD τ sig := (SparseCore.T d).loc main_v3_1
abbrev nrmLoc (d : Dev nD) : Loc nD τ sig := (SparseCore.T d).loc main_v7
abbrev outLoc (d : Dev nD) : Loc nD τ sig := (SparseCore.T d).loc main_v9

variable (m : (ℓ : Loc nD τ sig) → Buf (Elt F) ℓ) (ρ : Dev nD → PrngReg)

/-- Every index names a row of the table. -/
def PreOK : Prop := ∀ (d : Dev nD) (j : S16384.Idx), (m (idsLoc d) j).toNat < 100000

/-! ## The values -/

abbrev ix1 (b : Fin 16384) : S16384.Idx := fun | 0 => b
abbrev ix2 (r : Fin 100000) (j : Fin 128) : S100000x128.Idx := fun | 0 => r | 1 => j
abbrev ixo (b : Fin 16384) (j : Fin 128) : S16384x128.Idx := fun | 0 => b | 1 => j

/-- The table row position `n` names (nothing past the list). -/
def idN (ids : S16384.Idx → BitVec 32) (n : ℕ) : ℕ := if h : n < 16384 then (ids (ix1 ⟨n, h⟩)).toNat else 0

/-- The gathered rows. -/
def gath (tab : S100000x128.Idx → Elt F .f32) (ids : S16384.Idx → BitVec 32) : S16384x128.Idx → Elt F .f32 :=
  fun x => tab (ix2 ⟨idN ids (x 0).val % 100000, Nat.mod_lt _ (by decide)⟩ (x 1))

/-- Position `b` is the last one naming table row `r`. -/
def IsLast (ids : S16384.Idx → BitVec 32) (r : ℕ) (b : Fin 16384) : Prop :=
  idN ids b.val = r ∧ ∀ b' : Fin 16384, b < b' → idN ids b'.val ≠ r

open scoped Classical in
/-- The table with each named row replaced by the new row of the last position naming it. -/
def scat (tab : S100000x128.Idx → Elt F .f32) (ids : S16384.Idx → BitVec 32) (N : S16384x128.Idx → Elt F .f32) :
    S100000x128.Idx → Elt F .f32 :=
  fun x => if h : ∃ b, IsLast ids (x 0).val b then N (ixo h.choose (x 1)) else tab x

theorem isLast_unique {ids : S16384.Idx → BitVec 32} {r : ℕ} {b b' : Fin 16384} (h : IsLast ids r b) (h' : IsLast ids r b') : b = b' := by
  rcases lt_trichotomy b b' with hlt | heq | hlt
  · exact absurd h'.1 (h.2 b' hlt)
  · exact heq
  · exact absurd h.1 (h'.2 b hlt)

/-- A named row has a last position naming it. -/
theorem exists_last (ids : S16384.Idx → BitVec 32) (b : Fin 16384) : ∃ b', IsLast ids (idN ids b.val) b' := by
  classical
  obtain ⟨b', hb', hmax⟩ := (Finset.univ.filter fun b' : Fin 16384 => idN ids b'.val = idN ids b.val).exists_max_image id
    ⟨b, by simp⟩
  refine ⟨b', (Finset.mem_filter.mp hb').2, fun b'' hlt e => ?_⟩
  exact absurd (hmax b'' (by simp [e])) (not_le.mpr hlt)

theorem scat_of_last {tab : S100000x128.Idx → Elt F .f32} {ids : S16384.Idx → BitVec 32} {N : S16384x128.Idx → Elt F .f32}
    {x : S100000x128.Idx} {b : Fin 16384} (h : IsLast ids (x 0).val b) : scat tab ids N x = N (ixo b (x 1)) := by
  unfold scat
  have hx : ∃ b, IsLast ids (x 0).val b := ⟨b, h⟩
  rw [dif_pos hx, isLast_unique hx.choose_spec h]

theorem scat_of_unnamed {tab : S100000x128.Idx → Elt F .f32} {ids : S16384.Idx → BitVec 32} {N : S16384x128.Idx → Elt F .f32}
    {x : S100000x128.Idx} (h : ∀ b : Fin 16384, idN ids b.val ≠ (x 0).val) : scat tab ids N x = tab x := by
  unfold scat; rw [dif_neg]; rintro ⟨b, hb⟩; exact h b hb.1

/-! ## Tiles and index positions -/

def coordsV (c : Fin (grid0.bound 0)) (s : Fin (grid0.bound 1)) : grid0.Coords :=
  fun | 0 => c | 1 => s | ⟨_ + 2, h⟩ => absurd h (Nat.not_lt.2 (Nat.le_add_left _ _))

/-- Position `128 j + k` of tile `(c, i)`'s 512. -/
abbrev Pos : Type := Fin 2 × Fin 16 × Fin 4 × Fin 128
def pos (b : Pos) : Fin 16384 := ⟨1024 * b.2.1.val + 512 * b.1.val + 128 * b.2.2.1.val + b.2.2.2.val, by
  have := b.1.isLt; have := b.2.1.isLt; have := b.2.2.1.isLt; have := b.2.2.2.isLt; omega⟩

theorem pos_injective : Function.Injective pos := by
  rintro ⟨c, i, j, k⟩ ⟨c', i', j', k'⟩ h
  have h := congrArg Fin.val h
  simp only [pos] at h
  have := c.isLt; have := i.isLt; have := j.isLt; have := k.isLt
  have := c'.isLt; have := i'.isLt; have := j'.isLt; have := k'.isLt
  have h1 : i.val = i'.val := by omega
  have h2 : c.val = c'.val := by omega
  have h3 : j.val = j'.val := by omega
  have h4 : k.val = k'.val := by omega
  rw [Fin.ext h1, Fin.ext h2, Fin.ext h3, Fin.ext h4]

theorem pos_surjective : Function.Surjective pos := by
  intro b
  refine ⟨(⟨b.val / 512 % 2, by omega⟩, ⟨b.val / 1024, by omega⟩, ⟨b.val / 128 % 4, by omega⟩, ⟨b.val % 128, by omega⟩), Fin.ext ?_⟩
  simp only [pos]; omega

/-! ## The racing row writes -/

/-- The elements of one table row. -/
abbrev RowIdx : Type := (S100000x128.rowShape (0 : Fin 2)).Idx
/-- A set of a row's elements as a number. -/
def enc (s : Finset RowIdx) : ℕ := (Fintype.equivFin (Finset RowIdx) s).val
theorem enc_injective : Function.Injective enc := fun a b h => (Fintype.equivFin (Finset RowIdx)).injective (Fin.ext h)

/-- Element `y` of table row `r`. -/
def rowAt (r : ℕ) (hr : r < 100000) (y : RowIdx) : S100000x128.Idx := ix2 ⟨r, hr⟩ (y (1 : Fin 2))

/-- What the output holds once `done b` of position `b`'s row is written: the final values there, and the final values
    wherever no position names the row. -/
def Good (ids : S16384.Idx → BitVec 32) (G f : S100000x128.Idx → Elt F .f32) (done : Pos → Finset RowIdx) : Prop :=
  (∀ b, ∀ y ∈ done b, ∀ h : idN ids (pos b).val < 100000, f (rowAt _ h y) = G (rowAt _ h y))
    ∧ ∀ x, (∀ b : Pos, idN ids (pos b).val ≠ (x 0).val) → f x = G x

/-- The right to advance position `b`'s record, at `s` written. -/
def wr (b : Pos) (s : Finset RowIdx) : sProp 𝕄 := count EM (pos b).val (enc s)
def wrAuth (b : Pos) (s : Finset RowIdx) : sProp 𝕄 := countAuth EM (pos b).val (enc s)
instance (b : Pos) (s : Finset RowIdx) : BI.Storable (upEmb : UEmb _ 𝕄) (wr b s) := by unfold wr count; infer_instance
instance (b : Pos) (s : Finset RowIdx) : BI.Storable (upEmb : UEmb _ 𝕄) (wrAuth b s) := by unfold wrAuth countAuth; infer_instance

/-- The output while the row writes race, or the records before they start. -/
def raceBody (d : Dev nD) (ids : S16384.Idx → BitVec 32) (G : S100000x128.Idx → Elt F .f32) : sProp 𝕄 :=
  iprop((∃ (f : Buf (Elt F) (outLoc d)) (done : Pos → Finset RowIdx), (outLoc d ↦{fullShare} f)
          ∗ (bigSep Finset.univ fun b => wrAuth b (done b)) ∗ ⌜Good ids G f done⌝)
    ∨ (bigSep Finset.univ fun b : Pos => iprop(wrAuth b ∅ ∗ wr b ∅)))
instance (d : Dev nD) (ids : S16384.Idx → BitVec 32) (G : S100000x128.Idx → Elt F .f32) :
    BI.Storable (upEmb : UEmb _ 𝕄) (raceBody d ids G) := by unfold raceBody; infer_instance

variable (N : Dev nD → S16384x128.Idx → Elt F .f32)

/-- The final output. -/
abbrev outG (d : Dev nD) : S100000x128.Idx → Elt F .f32 := scat (m (tabLoc d)) (m (idsLoc d)) (N d)

/-- The race's invariant, under some name. -/
def racing (d : Dev nD) : sProp 𝕄 := iprop(∃ ι : ℕ, inv ι (raceBody d (m (idsLoc d)) (outG m N d)))
instance (d : Dev nD) : BI.Persistent (racing m N d) := by unfold racing; infer_instance

/-! ## What the TensorCore and the tiles hand one another -/

/-- A tile's number among the shares of an array all tiles read. -/
def shN (L : grid0.Coords) : ℕ := 2 * (L 1).val + (L 0).val
abbrev tileSh (L : grid0.Coords) : PosShare TreeShare := Transfers.shareTokN fullShare (shN L)

/-- A tile's 512 rows of the gathered rows. -/
abbrev oldK (L : grid0.Coords) : Rect S16384x128 := Rect.unit (s := S16384x128) (k0_off2 L) S512x128.size (k0_off2_inb L)
abbrev oldM (L : grid0.Coords) : Memref sig .scVector .hbm S512x128 .f32 :=
  (Memref.whole main_v3_0_scv).slice (oldK L) (fun _ => rfl)
abbrev oldSet (L : grid0.Coords) : Finset S16384x128.Idx := (oldM L).view.set

/-- What a tile of the first call takes and brings back. -/
def go0 (d : Dev nD) (L : grid0.Coords) : sProp 𝕄 :=
  iprop((tabLoc d ↦{tileSh L} m (tabLoc d)) ∗ (idsLoc d ↦{tileSh L} m (idsLoc d))
    ∗ (∃ f, oldLoc d ↦[oldSet L]{fullShare} f)
    ∗ (if k0_cond1 L = 1#1 then iprop(∃ f, wtLoc d ↦{fullShare} f) else iprop(emp)))
def td0 (d : Dev nD) (L : grid0.Coords) : sProp 𝕄 :=
  iprop((tabLoc d ↦{tileSh L} m (tabLoc d)) ∗ (idsLoc d ↦{tileSh L} m (idsLoc d))
    ∗ (oldLoc d ↦[oldSet L]{fullShare} gath (m (tabLoc d)) (m (idsLoc d)))
    ∗ (if k0_cond1 L = 1#1 then iprop(∃ f : Buf (Elt F) (wtLoc d), (wtLoc d ↦{fullShare} f) ∗ ⌜Winner.Upto (idN (m (idsLoc d))) 16384 f⌝)
        else iprop(emp)))

abbrev posAt (L : grid0.Coords) (j : Fin 4) (k : Fin 128) : Pos := (L 0, L 1, j, k)

/-- What a tile of the second call takes and brings back. -/
def go1 (d : Dev nD) (L : grid0.Coords) : sProp 𝕄 :=
  iprop((idsLoc d ↦{tileSh L} m (idsLoc d))
    ∗ (∃ f : Buf (Elt F) (wtLoc d), (wtLoc d ↦{tileSh L} f) ∗ ⌜Winner.Upto (idN (m (idsLoc d))) 16384 f⌝)
    ∗ (nrmLoc d ↦{tileSh L} N d)
    ∗ bigSep Finset.univ fun j => bigSep Finset.univ fun k => wr (posAt L j k) ∅)
def td1 (d : Dev nD) (L : grid0.Coords) : sProp 𝕄 :=
  bigSep Finset.univ fun j => bigSep Finset.univ fun k => wr (posAt L j k) Finset.univ

instance (d : Dev nD) (L : grid0.Coords) : BI.Storable (upEmb : UEmb _ 𝕄) (go0 m d L) := by unfold go0; split <;> infer_instance
instance (d : Dev nD) (L : grid0.Coords) : BI.Storable (upEmb : UEmb _ 𝕄) (td0 m d L) := by unfold td0; split <;> infer_instance
instance (d : Dev nD) (L : grid0.Coords) : BI.Storable (upEmb : UEmb _ 𝕄) (go1 m N d L) := by unfold go1; infer_instance
instance (d : Dev nD) (L : grid0.Coords) : BI.Storable (upEmb : UEmb _ 𝕄) (td1 (F := F) d L) := by unfold td1; infer_instance

theorem nSub_eq (q : Fin 2) : (K (F := F)).nSub q = 16 := match q with | 0 => rfl | 1 => rfl
theorem nCore_eq (q : Fin 2) : (K (F := F)).nCore q = 2 := match q with | 0 => rfl | 1 => rfl

/-- The grid coordinates of task `i` of SparseCore `c` of a call. -/
abbrev crd (q : Fin 2) (c : Fin ((K (F := F)).nCore q)) (i : Fin ((K (F := F)).nSub q)) : grid0.Coords :=
  coordsV (Fin.cast (nCore_eq (F := F) q) c) (Fin.cast (nSub_eq (F := F) q) i)

def goQ (q : Fin 2) (d : Dev nD) (L : grid0.Coords) : sProp 𝕄 := match q with | 0 => go0 m d L | 1 => go1 m N d L
def tdQ (q : Fin 2) (d : Dev nD) (L : grid0.Coords) : sProp 𝕄 := match q with | 0 => td0 m d L | 1 => td1 d L
instance (q : Fin 2) (d : Dev nD) (L : grid0.Coords) : BI.Storable (upEmb : UEmb _ 𝕄) (goQ m N q d L) := by
  unfold goQ; split <;> infer_instance
instance (q : Fin 2) (d : Dev nD) (L : grid0.Coords) : BI.Storable (upEmb : UEmb _ 𝕄) (tdQ m q d L) := by
  unfold tdQ; split <;> infer_instance

/-- A SparseCore of a call takes and brings back what its tiles do; a tile of the second call has the race's invariant. -/
def P : (K (F := F)).Pay (nD := nD) (Val := Elt F) (Name := ℕ) (U := UU) where
  st := fun q d c => bigSep Finset.univ fun i => goQ m N q d (crd (F := F) q c i)
  dn := fun q d c => bigSep Finset.univ fun i => tdQ m q d (crd (F := F) q c i)
  go := fun q d c i => goQ m N q d (crd (F := F) q c i)
  td := fun q d c i => tdQ m q d (crd (F := F) q c i)
  x := fun q thr => match q with | 0 => iprop(emp) | 1 => racing m N thr.1

instance P_storable : (P m N).IsStorable where
  st q d c := (inferInstance : BI.Storable (upEmb : UEmb _ 𝕄) (bigSep Finset.univ fun i => goQ m N q d (crd (F := F) q c i)))
  dn q d c := (inferInstance : BI.Storable (upEmb : UEmb _ 𝕄) (bigSep Finset.univ fun i => tdQ m q d (crd (F := F) q c i)))
  go q d c i := (inferInstance : BI.Storable (upEmb : UEmb _ 𝕄) (goQ m N q d (crd (F := F) q c i)))
  td q d c i := (inferInstance : BI.Storable (upEmb : UEmb _ 𝕄) (tdQ m q d (crd (F := F) q c i)))

theorem vecSplit (q : Fin 2) : (K (F := F)).VecSplit' (P m N) q := by
  intro d c
  show (bigSep Finset.univ fun i => goQ m N q d (crd (F := F) q c i)) ⊢ |={Set.univ}=> iprop(
      (bigSep Finset.univ fun i => goQ m N q d (crd (F := F) q c i))
      ∗ ((bigSep Finset.univ fun i => tdQ m q d (crd (F := F) q c i)) -∗ bigSep Finset.univ fun i => tdQ m q d (crd (F := F) q c i)))
  iintro H; imodintro
  isplitl [H]; · iexact H
  iintro H; iexact H

end Cert.Proof

end
-- ==== Proof.WinnerLoop.lean ====
/- One trip of the first call's loop: sixteen chunks of sixteen indices, each loaded, checked and
   scattered at the lanes `scan_count` marks. After the chunk that ends at index `n` the table
   names, for every row named below `n`, the last index below `n` that names it. -/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.ExclCount

variable {F : FTy → Type} [FloatOps F]

local notation "𝕄" => MT nD τ sig (HIx 2) (Elt F) ℕ UU ℕ

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The winner table and the index list in a tile's own memory. -/
abbrev wM : Memref sig .scVector .vmem S100000 .i32 := Memref.whole cc0_scoped3
abbrev lM : Memref sig .scVector .vmem S16384 .i32 := Memref.whole cc0_scoped4

/-! ## The positions a chunk stores -/

omit [FloatOps F] in
theorem pay_eq (t : Fin k0_t1_loop.trips) (c : ℕ) (hc : c ≤ 240) (w : BitVec 32)
    (hw : w = (0#32 + BitVec.ofNat 32 t.val * 1#32) * 256#32 + BitVec.ofNat 32 c) (x : S16.Idx) :
    addi (broadcast S16 w) (iota .scVector S16 32 [0] iota_S16_d0_w32_scVector) x
      = BitVec.ofNat 32 (256 * t.val + c + (x 0).val) := by
  have ht : t.val < 64 := t.isLt
  have hx : (x 0).val < 16 := (x 0).isLt
  show w + BitVec.ofNat 32 ([(0 : Fin 1)].foldl (fun n a => n * S16.size a + (x a).val) 0) = _
  subst hw
  apply BitVec.eq_of_toNat_eq
  simp [BitVec.toNat_add, BitVec.toNat_mul]
  omega

/-! ## A buffer read and written through its whole rectangle -/

omit [FloatOps F] in
theorem access_whole_emb (b : Ref sig .scVector) (x : b.ty.shape.Idx) : ((Memref.whole b).access (Rect.whole b.ty.shape)).emb x = x :=
  funext fun a => Fin.ext (show 0 + 1 * (x a).val = (x a).val by omega)
omit [FloatOps F] in
theorem access_whole_read (b : Ref sig .scVector) (f : b.ty.Contents (Elt F)) :
    ((Memref.whole b).access (Rect.whole b.ty.shape)).read (Elt F) f = f := by
  funext x; rw [View.read_apply]; exact (cast_eq _ _).trans (congrArg f (access_whole_emb b x))
omit [FloatOps F] in
theorem access_whole_write (b : Ref sig .scVector) (f g : b.ty.Contents (Elt F)) :
    ((Memref.whole b).access (Rect.whole b.ty.shape)).write (Elt F) f g Finset.univ = g := by
  funext x
  have h := View.write_emb_of_mem (Val := Elt F) (v := (Memref.whole b).access (Rect.whole b.ty.shape)) f g (Finset.mem_univ x)
  rw [access_whole_emb] at h
  exact h.trans (cast_eq _ _)

/-! ## A chunk's load and check, and its scatter -/

variable (d : Dev nD) (L : grid0.Coords) (ids : S16384.Idx → BitVec 32)

theorem load_assume (hids : ∀ j, (ids j).toNat < 100000) (off : Fin 1 → ℕ) (inb : ∀ a, off a + S16.size a ≤ S16384.size a) (n : ℕ) (hoff : off = ![n])
    {la : (lM).view.LoadsAt (Rect.unit (s := S16384) off S16.size inb).toLoadRect}
    {chk : Vec F S16 .i32 → Prop} {dec : ∀ v, Decidable (chk v)}
    (hchk : ∀ v : Vec F S16 .i32, (∀ a x, ((![v] : Fin 1 → IVec S16 32) a x).toNat < S100000.size a) → chk v)
    {α : Type} {Q : α → sProp 𝕄}
    {k : (v : Vec F S16 .i32) → PLift (chk v) → Prog (TpuEff nD τ sig (Elt F) Λ₀ (.scVector (cV L) (jV L))) α} :
    ((VT d L).loc cc0_scoped4 ↦{fullShare} ids : sProp 𝕄)
      ⊢ iprop((∀ (v : Vec F S16 .i32) (h : PLift (chk v)), ⌜∀ x, (v x).toNat = idN ids (n + (x 0).val)⌝
            -∗ ((VT d L).loc cc0_scoped4 ↦{fullShare} ids) -∗ wp frame (wpE (defs₀ (F := F)) 𝒱₀ (VT d L) none) Set.univ (k v h) Q)
        -∗ wp frame (wpE (defs₀ (F := F)) 𝒱₀ (VT d L) none) Set.univ
            (.op (.load lM (Rect.unit (s := S16384) off S16.size inb).toLoadRect la) fun (v : Vec F S16 .i32) =>
              .op (.assume (chk v) (dec v)) (k v)) Q) := by
  subst hoff
  let v : Vec F S16 .i32 := ((lM).access (Rect.unit (s := S16384) ![n] S16.size inb)).read (Elt F) ids
  have hn : n + 16 ≤ 16384 := inb 0
  have hv : ∀ x, (v x).toNat = idN ids (n + (x 0).val) := by
    intro x
    have hx : (x 0).val < 16 := (x 0).isLt
    show (((lM).access (Rect.unit (s := S16384) ![n] S16.size inb)).read (Elt F) ids x).toNat = _
    rw [View.read_apply]
    unfold idN
    rw [dif_pos (by omega)]
    show (ids _).toNat = _
    congr 2
    funext a
    match a with
    | 0 => exact Fin.ext (show n + 1 * (x 0).val = n + (x 0).val by omega)
  have hc : chk v := hchk v fun a x => by
    match a with
    | 0 =>
      show (v x).toNat < 100000
      rw [hv]; unfold idN; split
      · exact hids _
      · decide
  iintro H Hk
  iapply (wp_load_rect (defs := defs₀ (F := F)) 𝒱₀ (VT d L) none Set.univ (m := lM) (r := Rect.unit (s := S16384) ![n] S16.size inb)
    (S := Finset.univ) (q := fullShare) (f := ids) (Finset.subset_univ _)) $$ H
  iintro H
  iapply (wp_assume (defs := defs₀ (F := F)) 𝒱₀ (VT d L) none Set.univ hc)
  iapply Hk $$ %v %⟨hc⟩ [] H
  ipureintro; exact hv

theorem scatter_step (n n' : ℕ) (hn' : n' = n + 16) (v : S16.Idx → BitVec 32) (pay : IVec S16 32) (mask : IVec S16 1)
    (hv : ∀ x, (v x).toNat = idN ids (n + (x 0).val)) (hpay : ∀ x, pay x = BitVec.ofNat 32 (n + (x 0).val))
    (hmask : mask = (scanCount (broadcast S16 1#1) v).1)
    {h : ∀ a x, ((![v] : Fin 1 → IVec S16 32) a x).toNat < S100000.size a}
    {hs : ((wM).access (.whole S100000)).Stores Finset.univ}
    {α : Type} {Q : α → sProp 𝕄} {k : PUnit → Prog (TpuEff nD τ sig (Elt F) Λ₀ (.scVector (cV L) (jV L))) α} :
    iprop(∃ w : S100000.Idx → BitVec 32, ((VT d L).loc cc0_scoped3 ↦{fullShare} w) ∗ ⌜Winner.Upto (idN ids) n w⌝)
      ⊢ iprop((iprop(∃ w : S100000.Idx → BitVec 32, ((VT d L).loc cc0_scoped3 ↦{fullShare} w) ∗ ⌜Winner.Upto (idN ids) n' w⌝)
            -∗ wp frame (wpE (defs₀ (F := F)) 𝒱₀ (VT d L) none) Set.univ (k ⟨⟩) Q)
        -∗ wp (M := 𝕄) frame (wpE (defs₀ (F := F)) 𝒱₀ (VT d L) none) Set.univ
            (SparseCore.vectorStoreIdx wM ![v] pay mask false h hs >>= k) Q) := by
  subst hn'
  iintro ⟨%w, H, %hw⟩ Hk
  have e : ∀ g : Buf (Elt F) ((VT d L).loc cc0_scoped3), (((wM).access (.whole S100000)).loc (VT d L) ↦[((wM).access (.whole S100000)).set]{fullShare} g : sProp 𝕄)
      = (VT d L).loc cc0_scoped3 ↦{fullShare} g := fun g => by
    rw [show ((wM).access (.whole S100000)).set = Finset.univ from Memref.set_access_whole (cc0_scoped3 : Ref sig .scVector)]
  ihave H := (Entails.of_eq (e _).symm) $$ H
  iapply (SparseCore.wp_vectorStoreIdx 𝒱₀ (VT d L) none Set.univ (base := wM)) $$ H
  iintro H
  ihave H := (Entails.of_eq (e _)) $$ H
  iapply Hk
  iexists _
  isplitl [H]; · iexact H
  ipureintro
  rw [show ((wM).access (.whole S100000)).read (Elt F) w = w from access_whole_read (F := F) cc0_scoped3 w]
  refine Eq.mp (congrArg (Winner.Upto (idN ids) (n + 16)) (access_whole_write (F := F) cc0_scoped3 w _).symm) ?_
  exact Winner.step (idN ids) n w v pay ![v] rfl mask hmask hv hpay h hw

/-! ## The trip -/

/-- A tile's winner table, correct up to index `n`. -/
abbrev WT (n : ℕ) : sProp 𝕄 :=
  iprop(∃ w : S100000.Idx → BitVec 32, ((VT d L).loc cc0_scoped3 ↦{fullShare} w) ∗ ⌜Winner.Upto (idN ids) n w⌝)

/-- The loop's body at the buffers the call gives it. -/
abbrev bodyK (h : k0_cond1 L = 1#1) : Fin k0_t1_loop.trips → BitVec 32 → Prog (TpuEff nD τ sig (Elt F) Λ₀ (.scVector (cV L) (jV L))) (BitVec 32) :=
  k0_t1_body (F := F) L (Memref.whole main_arg2_scv) (Memref.isWhole_whole _) (Memref.whole main_arg0_scv) (Memref.isWhole_whole _)
    (Memref.whole main_v3_0_scv) (Memref.isWhole_whole _) (Memref.whole main_v3_1_scv) (Memref.isWhole_whole _)
    (Memref.whole cc0_scratch0) (Memref.isWhole_whole _) cc0_scratch1 cc0_scoped0 (Memref.whole cc0_scoped1) (Memref.isWhole_whole _)
    cc0_scoped2 (Memref.whole cc0_scoped3) (Memref.isWhole_whole _) (Memref.whole cc0_scoped4) (Memref.isWhole_whole _)
    cc0_scoped5 cc0_scoped6 h (iota .scVector S16 32 [0] iota_S16_d0_w32_scVector)

set_option maxHeartbeats 4000000 in
theorem trip (hids : ∀ j, (ids j).toNat < 100000) (h : k0_cond1 L = 1#1) (t : Fin k0_t1_loop.trips) (acc : BitVec 32) :
    (iprop(WT d L ids (256 * t.val) ∗ ((VT d L).loc cc0_scoped4 ↦{fullShare} ids)) : sProp 𝕄)
      ⊢ wp frame (wpE (defs₀ (F := F)) 𝒱₀ (VT d L) none) Set.univ (bodyK (F := F) L h t acc)
          fun _ => iprop(WT d L ids (256 * (t.val + 1)) ∗ ((VT d L).loc cc0_scoped4 ↦{fullShare} ids)) := by
  unfold bodyK k0_t1_body
  simp only [k0_part1_eq_skeleton, k0_part2_eq_skeleton, k0_part3_eq_skeleton]
  unfold k0_part1_skel k0_part2_skel k0_part3_skel
  simp only [Prog.lift, Prog.bind_op, Prog.bind_ret, Prog.pure_eq_ret, Prog.bind_assoc]
  iintro ⟨Hw, Hl⟩
  iapply (load_assume d L ids hids (k0_off3 t) _ (256 * t.val + 0) (k0_off3_eq t) (fun v hv _ => hv)) $$ Hl
  iintro %v0 %h0 %hv0 Hl
  iapply (scatter_step d L ids (256 * t.val + 0) (256 * t.val + 16) rfl v0 _ _ hv0 (pay_eq t 0 (by decide) _ rfl) rfl) $$ Hw
  iintro Hw
  iapply (load_assume d L ids hids (k0_off4 t) _ (256 * t.val + 16) (k0_off4_eq t) (fun v hv _ => hv)) $$ Hl
  iintro %v1 %h1 %hv1 Hl
  iapply (scatter_step d L ids (256 * t.val + 16) (256 * t.val + 32) rfl v1 _ _ hv1 (pay_eq t 16 (by decide) _ rfl) rfl) $$ Hw
  iintro Hw
  iapply (load_assume d L ids hids (k0_off5 t) _ (256 * t.val + 32) (k0_off5_eq t) (fun v hv _ => hv)) $$ Hl
  iintro %v2 %h2 %hv2 Hl
  iapply (scatter_step d L ids (256 * t.val + 32) (256 * t.val + 48) rfl v2 _ _ hv2 (pay_eq t 32 (by decide) _ rfl) rfl) $$ Hw
  iintro Hw
  iapply (load_assume d L ids hids (k0_off6 t) _ (256 * t.val + 48) (k0_off6_eq t) (fun v hv _ => hv)) $$ Hl
  iintro %v3 %h3 %hv3 Hl
  iapply (scatter_step d L ids (256 * t.val + 48) (256 * t.val + 64) rfl v3 _ _ hv3 (pay_eq t 48 (by decide) _ rfl) rfl) $$ Hw
  iintro Hw
  iapply (load_assume d L ids hids (k0_off7 t) _ (256 * t.val + 64) (k0_off7_eq t) (fun v hv _ => hv)) $$ Hl
  iintro %v4 %h4 %hv4 Hl
  iapply (scatter_step d L ids (256 * t.val + 64) (256 * t.val + 80) rfl v4 _ _ hv4 (pay_eq t 64 (by decide) _ rfl) rfl) $$ Hw
  iintro Hw
  iapply (load_assume d L ids hids (k0_off8 t) _ (256 * t.val + 80) (k0_off8_eq t) (fun v hv _ => hv)) $$ Hl
  iintro %v5 %h5 %hv5 Hl
  iapply (scatter_step d L ids (256 * t.val + 80) (256 * t.val + 96) rfl v5 _ _ hv5 (pay_eq t 80 (by decide) _ rfl) rfl) $$ Hw
  iintro Hw
  iapply (load_assume d L ids hids (k0_off9 t) _ (256 * t.val + 96) (k0_off9_eq t) (fun v hv _ => hv)) $$ Hl
  iintro %v6 %h6 %hv6 Hl
  iapply (scatter_step d L ids (256 * t.val + 96) (256 * t.val + 112) rfl v6 _ _ hv6 (pay_eq t 96 (by decide) _ rfl) rfl) $$ Hw
  iintro Hw
  iapply (load_assume d L ids hids (k0_off10 t) _ (256 * t.val + 112) (k0_off10_eq t) (fun v hv _ => hv)) $$ Hl
  iintro %v7 %h7 %hv7 Hl
  iapply (scatter_step d L ids (256 * t.val + 112) (256 * t.val + 128) rfl v7 _ _ hv7 (pay_eq t 112 (by decide) _ rfl) rfl) $$ Hw
  iintro Hw
  iapply (load_assume d L ids hids (k0_off11 t) _ (256 * t.val + 128) (k0_off11_eq t) (fun v hv _ => hv)) $$ Hl
  iintro %v8 %h8 %hv8 Hl
  iapply (scatter_step d L ids (256 * t.val + 128) (256 * t.val + 144) rfl v8 _ _ hv8 (pay_eq t 128 (by decide) _ rfl) rfl) $$ Hw
  iintro Hw
  iapply (load_assume d L ids hids (k0_off12 t) _ (256 * t.val + 144) (k0_off12_eq t) (fun v hv _ => hv)) $$ Hl
  iintro %v9 %h9 %hv9 Hl
  iapply (scatter_step d L ids (256 * t.val + 144) (256 * t.val + 160) rfl v9 _ _ hv9 (pay_eq t 144 (by decide) _ rfl) rfl) $$ Hw
  iintro Hw
  iapply (load_assume d L ids hids (k0_off13 t) _ (256 * t.val + 160) (k0_off13_eq t) (fun v hv _ => hv)) $$ Hl
  iintro %v10 %h10 %hv10 Hl
  iapply (scatter_step d L ids (256 * t.val + 160) (256 * t.val + 176) rfl v10 _ _ hv10 (pay_eq t 160 (by decide) _ rfl) rfl) $$ Hw
  iintro Hw
  iapply (load_assume d L ids hids (k0_off14 t) _ (256 * t.val + 176) (k0_off14_eq t) (fun v hv _ => hv)) $$ Hl
  iintro %v11 %h11 %hv11 Hl
  iapply (scatter_step d L ids (256 * t.val + 176) (256 * t.val + 192) rfl v11 _ _ hv11 (pay_eq t 176 (by decide) _ rfl) rfl) $$ Hw
  iintro Hw
  iapply (load_assume d L ids hids (k0_off15 t) _ (256 * t.val + 192) (k0_off15_eq t) (fun v hv _ => hv)) $$ Hl
  iintro %v12 %h12 %hv12 Hl
  iapply (scatter_step d L ids (256 * t.val + 192) (256 * t.val + 208) rfl v12 _ _ hv12 (pay_eq t 192 (by decide) _ rfl) rfl) $$ Hw
  iintro Hw
  iapply (load_assume d L ids hids (k0_off16 t) _ (256 * t.val + 208) (k0_off16_eq t) (fun v hv _ => hv)) $$ Hl
  iintro %v13 %h13 %hv13 Hl
  iapply (scatter_step d L ids (256 * t.val + 208) (256 * t.val + 224) rfl v13 _ _ hv13 (pay_eq t 208 (by decide) _ rfl) rfl) $$ Hw
  iintro Hw
  iapply (load_assume d L ids hids (k0_off17 t) _ (256 * t.val + 224) (k0_off17_eq t) (fun v hv _ => hv)) $$ Hl
  iintro %v14 %h14 %hv14 Hl
  iapply (scatter_step d L ids (256 * t.val + 224) (256 * t.val + 240) rfl v14 _ _ hv14 (pay_eq t 224 (by decide) _ rfl) rfl) $$ Hw
  iintro Hw
  iapply (load_assume d L ids hids (k0_off18 t) _ (256 * t.val + 240) (k0_off18_eq t) (fun v hv _ => hv)) $$ Hl
  iintro %v15 %h15 %hv15 Hl
  iapply (scatter_step d L ids (256 * t.val + 240) (256 * t.val + 256) rfl v15 _ _ hv15 (pay_eq t 240 (by decide) _ rfl) rfl) $$ Hw
  iintro Hw
  sl_step
  isplitl [Hw]; · iexact Hw
  iexact Hl

end Cert.Proof

end
-- ==== Proof.GatherTile.lean ====
/- A tile of the first SparseCore call: its 512 indices fetched, the table rows they name gathered
   and written out, and on one tile the winner table built over the whole index list and written out. -/
module

public import proofs.«01_k».proof.Proof.WinnerLoop

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.ExclCount

variable {F : FTy → Type} [FloatOps F]

local notation "𝕄" => MT nD τ sig (HIx 2) (Elt F) ℕ UU ℕ

variable (m : (ℓ : Loc nD τ sig) → Buf (Elt F) ℓ) (d : Dev nD) (L : grid0.Coords)

/-- A tile's index buffer and row buffer; the arrays in the chip's memory. -/
abbrev iM : Memref sig .scVector .vmem S512 .i32 := Memref.whole cc0_scratch0
abbrev rM : Memref sig .scVector .vmem S512x128 .f32 := Memref.whole cc0_scoped1
abbrev idsM : Memref sig .scVector .hbm S16384 .i32 := Memref.whole main_arg0_scv
abbrev tabM : Memref sig .scVector .hbm S100000x128 .f32 := Memref.whole main_arg2_scv
abbrev wtM : Memref sig .scVector .hbm S100000 .i32 := Memref.whole main_v3_1_scv
abbrev idsPiece (L : grid0.Coords) : Memref sig .scVector .hbm S512 .i32 :=
  (idsM).slice (Rect.unit (s := S16384) (k0_off1 L) S512.size (k0_off1_inb L)) (fun _ => rfl)

/-! ## The tile's cells and buffers -/

abbrev csem (k : Nat) (hk : k < 5 := by decide) : DmaSem sig := ⟨k, show k < 24 by omega⟩
abbrev dcell (d : Dev nD) (c : Fin τ.nSC) (i : Fin τ.nSub) (k : Fin 5) : GSem nD τ sig := (V d c i, .dma (csem k.val k.isLt))
/-- The five cells the task names, at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0)

omit [FloatOps F] in
theorem dma_scoped : ∀ s : DmaSem sig, (SemLoc.dma s : SemLoc sig).isScoped .scVector = true := by decide

omit [FloatOps F] in
theorem dcell_mem (c : Fin τ.nSC) (i : Fin τ.nSub) (k : Fin 5) : dcell d c i k ∈ ownCells (V d c i) :=
  mem_ownCells.mpr ⟨rfl, dma_scoped _⟩

omit [FloatOps F] in
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The tile's own buffers but the four the task names. -/
abbrev restRefs0 (L : grid0.Coords) : Finset (DevRef τ sig) :=
  ((((ownRefs (τ := τ) (.scVector (cV L) (jV L))).erase ((Proc.scVector (cV L) (jV L)).devRef cc0_scratch0)).erase
      ((Proc.scVector (cV L) (jV L)).devRef cc0_scoped1)).erase ((Proc.scVector (cV L) (jV L)).devRef cc0_scoped3)).erase
      ((Proc.scVector (cV L) (jV L)).devRef cc0_scoped4)

omit [FloatOps F] in
theorem ownBufs_V :
    (ownBufs (VT d L) : sProp 𝕄)
      = iprop((∃ f, (VT d L).loc cc0_scratch0 ↦{fullShare} f) ∗ (∃ f, (VT d L).loc cc0_scoped1 ↦{fullShare} f)
          ∗ (∃ f, (VT d L).loc cc0_scoped3 ↦{fullShare} f) ∗ (∃ f, (VT d L).loc cc0_scoped4 ↦{fullShare} f)
          ∗ bigSep (restRefs0 L) fun b => iprop(∃ f, ((d, b) : Loc nD τ sig) ↦{fullShare} f)) := by
  unfold SparseCore.Cfg.ownBufs
  have ne {a b : Ref sig .scVector} (h : a ≠ b) : (Proc.scVector (τ := τ) (cV L) (jV L)).devRef a ≠ (Proc.scVector (cV L) (jV L)).devRef b :=
    fun e => h (Proc.devRef_injective _ e)
  have mem0 := SparseCore.Cfg.mem_ownRefs_of_owner (p := Proc.scVector (τ := τ) (cV L) (jV L)) (b := (Proc.scVector (cV L) (jV L)).devRef cc0_scratch0) rfl
  have mem1 := SparseCore.Cfg.mem_ownRefs_of_owner (p := Proc.scVector (τ := τ) (cV L) (jV L)) (b := (Proc.scVector (cV L) (jV L)).devRef cc0_scoped1) rfl
  have mem3 := SparseCore.Cfg.mem_ownRefs_of_owner (p := Proc.scVector (τ := τ) (cV L) (jV L)) (b := (Proc.scVector (cV L) (jV L)).devRef cc0_scoped3) rfl
  have mem4 := SparseCore.Cfg.mem_ownRefs_of_owner (p := Proc.scVector (τ := τ) (cV L) (jV L)) (b := (Proc.scVector (cV L) (jV L)).devRef cc0_scoped4) rfl
  refine (SparseCore.bigSep_erase' mem0).trans ?_
  rw [SparseCore.bigSep_erase' (Finset.mem_erase.mpr ⟨ne (by decide), mem1⟩),
    SparseCore.bigSep_erase' (Finset.mem_erase.mpr ⟨ne (by decide), Finset.mem_erase.mpr ⟨ne (by decide), mem3⟩⟩),
    SparseCore.bigSep_erase' (Finset.mem_erase.mpr ⟨ne (by decide), Finset.mem_erase.mpr ⟨ne (by decide), Finset.mem_erase.mpr ⟨ne (by decide), mem4⟩⟩⟩)]

omit [FloatOps F] in
theorem pts_iM (f : Buf (Elt F) ((VT d L).loc cc0_scratch0)) :
    ((iM).view.loc (VT d L) ↦[(iM).view.set]{fullShare} f : sProp 𝕄) = (VT d L).loc cc0_scratch0 ↦{fullShare} f := by
  rw [View.set_whole]
omit [FloatOps F] in
theorem pts_rM (f : Buf (Elt F) ((VT d L).loc cc0_scoped1)) :
    ((rM).view.loc (VT d L) ↦[(rM).view.set]{fullShare} f : sProp 𝕄) = (VT d L).loc cc0_scoped1 ↦{fullShare} f := by
  rw [View.set_whole]
omit [FloatOps F] in
theorem pts_wM (f : Buf (Elt F) ((VT d L).loc cc0_scoped3)) :
    ((wM).view.loc (VT d L) ↦[(wM).view.set]{fullShare} f : sProp 𝕄) = (VT d L).loc cc0_scoped3 ↦{fullShare} f := by
  rw [View.set_whole]
omit [FloatOps F] in
theorem pts_lM (f : Buf (Elt F) ((VT d L).loc cc0_scoped4)) :
    ((lM).view.loc (VT d L) ↦[(lM).view.set]{fullShare} f : sProp 𝕄) = (VT d L).loc cc0_scoped4 ↦{fullShare} f := by
  rw [View.set_whole]
omit [FloatOps F] in
theorem pts_wtM (f : Buf (Elt F) (wtLoc d)) :
    ((wtM).view.loc (VT d L) ↦[(wtM).view.set]{fullShare} f : sProp 𝕄) = wtLoc d ↦{fullShare} f := by
  rw [View.set_whole]

/-- The call's body at the buffers it is given. -/
abbrev gatherK (L : grid0.Coords) : Prog (TpuEff nD τ sig (Elt F) Λ₀ (.scVector (cV L) (jV L))) PUnit :=
  cc0__gather_winner (F := F) L (Memref.whole main_arg2_scv) (Memref.isWhole_whole _) (Memref.whole main_arg0_scv) (Memref.isWhole_whole _)
    (Memref.whole main_v3_0_scv) (Memref.isWhole_whole _) (Memref.whole main_v3_1_scv) (Memref.isWhole_whole _)
    (Memref.whole cc0_scratch0) (Memref.isWhole_whole _) cc0_scratch1 cc0_scoped0 (Memref.whole cc0_scoped1) (Memref.isWhole_whole _)
    cc0_scoped2 (Memref.whole cc0_scoped3) (Memref.isWhole_whole _) (Memref.whole cc0_scoped4) (Memref.isWhole_whole _)
    cc0_scoped5 cc0_scoped6

/-! ## The indices fetched -/

/-- What the index fetch brings: the tile's 512 indices. -/
abbrev idPay : S512.Idx → Elt F .i32 := ReadAs.same.apply ((idsPiece L).view.read (Elt F) (m (idsLoc d)))

theorem idPay_toNat (x : S512.Idx) :
    (idPay m d L x).toNat = idN (m (idsLoc d)) (1024 * (L 1).val + 512 * (L 0).val + (x 0).val) := by
  have h1 : (L 1).val < 16 := (L 1).isLt
  have h0 : (L 0).val < 2 := (L 0).isLt
  have hx : (x 0).val < 512 := (x 0).isLt
  have e : idPay m d L x = m (idsLoc d) ((idsPiece L).view.emb x) := (View.read_apply _ _).trans (cast_eq _ _)
  rw [e]; unfold idN; rw [dif_pos (by omega)]
  congr 2
  funext a
  match a with
  | 0 =>
    refine Fin.ext ?_
    show k0_off1 L 0 + 1 * (x 0).val = 1024 * (L 1).val + 512 * (L 0).val + (x 0).val
    rw [k0_off1_eq]; show 1024 * (L 1).val + 512 * (L 0).val + 1 * (x 0).val = _; omega

theorem idPay_lt (hpre : PreOK m) (x : S512.Idx) : (idPay m d L x).toNat < 100000 := by
  rw [idPay_toNat]; unfold idN; split
  · exact hpre d _
  · decide

theorem idPay_inb (hpre : PreOK m) (g : Buf (Elt F) ((iM).view.loc (VT d L))) (pay : S512.Idx → Elt F .i32) (hpay : pay = idPay m d L) :
    ∀ x, (View.read (Elt F) (iM).view ((iM).view.writes (Elt F) g [⟨Rect.whole cc0_scratch0.ty.shape, pay⟩]) x).toNat < 100000 := by
  subst hpay; intro x
  have e := View.read_writes_whole (Val := Elt F) (iM).view g (idPay m d L)
  refine lt_of_eq_of_lt (congrArg (fun y : S512.Idx → Elt F .i32 => (y x).toNat) e) (idPay_lt m d L hpre x)

/-! ## The rows gathered -/

/-- The element of the gathered rows the tile's piece has at `y`. -/
theorem old_emb (y : S512x128.Idx) :
    (oldM L).view.emb y = ixo ⟨1024 * (L 1).val + 512 * (L 0).val + (y 0).val, by
      have h1 : (L 1).val < 16 := (L 1).isLt
      have h0 : (L 0).val < 2 := (L 0).isLt
      have hx : (y 0).val < 512 := (y 0).isLt
      omega⟩ (y 1) := by
  funext a
  match a with
  | 0 =>
    refine Fin.ext ?_
    show k0_off2 L 0 + 1 * (y 0).val = 1024 * (L 1).val + 512 * (L 0).val + (y 0).val
    rw [k0_off2_eq]; show 1024 * (L 1).val + 512 * (L 0).val + 1 * (y 0).val = _; omega
  | 1 =>
    refine Fin.ext ?_
    show k0_off2 L 1 + 1 * (y 1).val = (y 1).val
    rw [k0_off2_eq]; show 0 + 1 * (y 1).val = _; omega

/-- The whole table read through the gather's slice. -/
abbrev tabAll : Memref sig .scVector .hbm S100000x128 .f32 :=
  (tabM).slice (Rect.unit (s := S100000x128) ![0, 0] S100000x128.size inb_S100000x128_S100000x128_0_0) (fun _ => rfl)

theorem tabAll_read (f : S100000x128.Idx → Elt F .f32) : (tabAll).view.read (Elt F) f = f := by
  funext x
  rw [View.read_apply]
  refine (cast_eq _ _).trans (congrArg f ?_)
  funext a
  match a with
  | 0 => exact Fin.ext (show 0 + 1 * (x 0).val = (x 0).val by omega)
  | 1 => exact Fin.ext (show 0 + 1 * (x 1).val = (x 1).val by omega)

/-- A line's index is its own number. -/
theorem rowMajor_line {n : ℕ} (x : (⟨1, ![n]⟩ : Shape).Idx) : (Shape.rowMajor _ x).val = (x 0).val := by
  refine (Shape.rowMajorPi_succ_val _ x).trans ?_
  have h0 : (Shape.rowMajorPi (fun a : Fin 0 => (![n] : Fin 1 → ℕ) a.succ) fun a => x a.succ).val = 0 :=
    Nat.lt_one_iff.mp (Shape.rowMajorPi (fun a : Fin 0 => (![n] : Fin 1 → ℕ) a.succ) fun a => x a.succ).isLt
  refine (congrArg₂ (· + ·) (Nat.mul_one _) h0).trans (Nat.add_zero _)

theorem gathered (hpre : PreOK m) (w : S512.Idx → Elt F .i32) (hw : w = idPay m d L)
    (hn : S512.numel = S512x128.size gathers_S100000x128_S512x128.axis')
    (hin : ∀ x, (w x).toNat < S100000x128.size gathers_S100000x128_S512x128.axis) (y : S512x128.Idx) :
    SparseCore.gatherPayload gathers_S100000x128_S512x128 ((tabAll).view.read (Elt F) (m (tabLoc d))) (SparseCore.rows w hn hin) y
      = gath (m (tabLoc d)) (m (idsLoc d)) ((oldM L).view.emb y) := by
  subst hw
  rw [tabAll_read, old_emb]
  unfold SparseCore.gatherPayload gath
  congr 1
  funext a
  have hlt := idPay_lt m d L hpre
  match a with
  | 0 =>
    refine Fin.ext ?_
    refine (congrArg Fin.val (Shape.Gathers.idx_axis gathers_S100000x128_S512x128 _ y)).trans ?_
    show (idPay m d L (S512.rowMajor.symm ((y 0).cast hn.symm))).toNat = _ % 100000
    have e : ((S512.rowMajor.symm ((y 0).cast hn.symm) : S512.Idx) 0).val = (y 0).val := by
      rw [← rowMajor_line, Equiv.apply_symm_apply]; rfl
    have h1 := idPay_toNat m d L (S512.rowMajor.symm ((y 0).cast hn.symm))
    rw [e] at h1
    rw [h1, Nat.mod_eq_of_lt (h1 ▸ hlt _)]
  | 1 =>
    refine Fin.ext ?_
    exact Shape.Gathers.idx_of_ne gathers_S100000x128_S512x128 _ y 1 (by decide)

/-- A piece wholly written with a payload that agrees with `G` there holds `G`. -/
theorem old_value (f0 : Buf (Elt F) (oldLoc d)) (pay : S512x128.Idx → Elt F .f32) (G : S16384x128.Idx → Elt F .f32)
    (hpay : ∀ y, pay y = G ((oldM L).view.emb y)) :
    ((oldM L).view.loc (VT d L) ↦[(oldM L).view.set]{fullShare} (oldM L).view.writes (Elt F) f0 [⟨Rect.whole S512x128, pay⟩] : sProp 𝕄)
      = ((oldM L).view.loc (VT d L) ↦[(oldM L).view.set]{fullShare} G) := by
  refine pointsTo_congr fun i hi => ?_
  obtain ⟨y, -, rfl⟩ := Finset.mem_map.mp hi
  have e := congrFun (View.read_writes_whole (Val := Elt F) (oldM L).view f0 pay) y
  rw [View.read_apply] at e
  exact ((cast_eq _ _).symm.trans e).trans (hpay y)

/-- The index list fetched whole. -/
theorem list_value (l0 : Buf (Elt F) ((VT d L).loc cc0_scoped4)) (pay : S16384.Idx → Elt F .i32) (hpay : pay = m (idsLoc d)) :
    ((lM).view.loc (VT d L) ↦[(lM).view.set]{fullShare} (lM).view.writes (Elt F) l0 [⟨Rect.whole S16384, pay⟩] : sProp 𝕄)
      = (VT d L).loc cc0_scoped4 ↦{fullShare} (m (idsLoc d) : S16384.Idx → BitVec 32) := by
  subst hpay
  rw [pts_lM]
  exact pointsTo_congr fun i _ => congrFun ((View.read_whole (Val := Elt F) (cc0_scoped4 : Ref sig .scVector) _).symm.trans
    (View.read_writes_whole (Val := Elt F) (lM).view l0 (m (idsLoc d)))) i

/-- The winner table written out. -/
theorem table_value (t0 : Buf (Elt F) (wtLoc d)) (pay w : S100000.Idx → Elt F .i32) (hpay : pay = w) :
    ((wtM).view.loc (VT d L) ↦[(wtM).view.set]{fullShare} (wtM).view.writes (Elt F) t0 [⟨Rect.whole S100000, pay⟩] : sProp 𝕄)
      = ((wtM).view.loc (VT d L) ↦[(wtM).view.set]{fullShare} (w : Buf (Elt F) (wtLoc d))) := by
  subst hpay
  rw [pts_wtM, pts_wtM]
  exact pointsTo_congr fun i _ => congrFun ((View.read_whole (Val := Elt F) (main_v3_1_scv : Ref sig .scVector) _).symm.trans
    (View.read_writes_whole (Val := Elt F) (wtM).view t0 pay)) i

/-- Between trips: the table correct up to the trip's first index, the index list. -/
abbrev inv0 (k : ℕ) : sProp 𝕄 :=
  iprop(WT d L (m (idsLoc d)) (256 * k) ∗ ((VT d L).loc cc0_scoped4 ↦{fullShare} (m (idsLoc d) : S16384.Idx → BitVec 32)))

/-! ## The run -/

set_option maxHeartbeats 4000000 in
theorem tile_run_off (hpre : PreOK m) (hc : ¬ k0_cond1 L = 1#1) (O : CellTallies nD τ sig (HIx 2)) (W : Waits sig (HIx 2))
    (f0 : Buf (Elt F) (oldLoc d)) (g0 : Buf (Elt F) ((VT d L).loc cc0_scratch0)) (r0 : Buf (Elt F) ((VT d L).loc cc0_scoped1)) :
    (iprop(Transfers.MayWaits (VT d L) (default : HIx 2) O
        ∗ ((tabM).view.loc (VT d L) ↦{tileSh L} m (tabLoc d))
        ∗ ((idsM).view.loc (VT d L) ↦{tileSh L} m (idsLoc d))
        ∗ ((oldM L).view.loc (VT d L) ↦[(oldM L).view.set]{fullShare} f0)
        ∗ ((iM).view.loc (VT d L) ↦[(iM).view.set]{fullShare} g0)
        ∗ ((rM).view.loc (VT d L) ↦[(rM).view.set]{fullShare} r0)
        ∗ cells0 d L
        ∗ owes (VT d L) O W) : sProp 𝕄)
      ⊢ wp frame (wpE (defs₀ (F := F)) 𝒱₀ (VT d L) none) Set.univ (gatherK (F := F) L)
          fun _ => iprop(((tabM).view.loc (VT d L) ↦{tileSh L} m (tabLoc d))
            ∗ ((idsM).view.loc (VT d L) ↦{tileSh L} m (idsLoc d))
            ∗ ((oldM L).view.loc (VT d L) ↦[(oldM L).view.set]{fullShare} gath (m (tabLoc d)) (m (idsLoc d)))
            ∗ (∃ g, (iM).view.loc (VT d L) ↦[(iM).view.set]{fullShare} g)
            ∗ (∃ g, (rM).view.loc (VT d L) ↦[(rM).view.set]{fullShare} g)
            ∗ cells0 d L
            ∗ ∃ W', ⌜∀ p ∈ W', p ∈ W ∨ p.2 = none⌝ ∗ owes (VT d L) O W') := by
  iintro ⟨#Hmw, HX, HI, Ho, HG, HR, ⟨Hc0, Hc1, Hc2, Hc3, Hc4⟩, HO⟩
  sl_unfold [gatherK, cc0__gather_winner]
  have hin := fun g => idPay_inb m d L hpre g (idPay m d L) rfl
  sl_exec (disch := first | sl_exact hc | omega)
  sl_step
  ihave Ho := (Entails.of_eq (old_value d L f0 (tile_run_off.sl.dma0_1 m d L r0 hin) (gath (m (tabLoc d)) (m (idsLoc d))) (fun y => (congrFun (View.read_writes_whole (Val := Elt F) (rM).view r0 _) y).trans
    (gathered m d L hpre _ (View.read_writes_whole (Val := Elt F) (iM).view _ (idPay m d L)) _ _ y)))) $$ Ho
  isplitl [HX]; · iexact HX
  isplitl [HI]; · iexact HI
  isplitl [Ho]; · iexact Ho
  isplitl [HG]; · iexists _; iexact HG
  isplitl [HR]; · iexists _; iexact HR
  isplitl [Hc0 Hc1 Hc2 Hc3 Hc4]
  · isplitl [Hc0]; · iexact Hc0
    isplitl [Hc1]; · iexact Hc1
    isplitl [Hc2]; · iexact Hc2
    isplitl [Hc3]; · iexact Hc3
    iexact Hc4
  iexists _; isplitr [HO]; swap; · iexact HO
  ipureintro; intro p hp
  simp only [Finset.mem_insert] at hp
  rcases hp with rfl | rfl | rfl | hp
  · exact .inr rfl
  · exact .inr rfl
  · exact .inr rfl
  · exact .inl hp

set_option maxHeartbeats 4000000 in
theorem tile_run_on (hpre : PreOK m) (hc : k0_cond1 L = 1#1) (O : CellTallies nD τ sig (HIx 2)) (W : Waits sig (HIx 2))
    (f0 : Buf (Elt F) (oldLoc d)) (t0 : Buf (Elt F) (wtLoc d)) (g0 : Buf (Elt F) ((VT d L).loc cc0_scratch0)) (r0 : Buf (Elt F) ((VT d L).loc cc0_scoped1))
    (w0 : Buf (Elt F) ((VT d L).loc cc0_scoped3)) (l0 : Buf (Elt F) ((VT d L).loc cc0_scoped4)) :
    (iprop(Transfers.MayWaits (VT d L) (default : HIx 2) O
        ∗ ((tabM).view.loc (VT d L) ↦{tileSh L} m (tabLoc d))
        ∗ ((idsM).view.loc (VT d L) ↦{tileSh L} m (idsLoc d))
        ∗ ((oldM L).view.loc (VT d L) ↦[(oldM L).view.set]{fullShare} f0)
        ∗ ((wtM).view.loc (VT d L) ↦[(wtM).view.set]{fullShare} t0)
        ∗ ((iM).view.loc (VT d L) ↦[(iM).view.set]{fullShare} g0)
        ∗ ((rM).view.loc (VT d L) ↦[(rM).view.set]{fullShare} r0)
        ∗ ((wM).view.loc (VT d L) ↦[(wM).view.set]{fullShare} w0)
        ∗ ((lM).view.loc (VT d L) ↦[(lM).view.set]{fullShare} l0)
        ∗ cells0 d L
        ∗ owes (VT d L) O W) : sProp 𝕄)
      ⊢ wp frame (wpE (defs₀ (F := F)) 𝒱₀ (VT d L) none) Set.univ (gatherK (F := F) L)
          fun _ => iprop(((tabM).view.loc (VT d L) ↦{tileSh L} m (tabLoc d))
            ∗ ((idsM).view.loc (VT d L) ↦{tileSh L} m (idsLoc d))
            ∗ ((oldM L).view.loc (VT d L) ↦[(oldM L).view.set]{fullShare} gath (m (tabLoc d)) (m (idsLoc d)))
            ∗ (∃ w : Buf (Elt F) (wtLoc d), ((wtM).view.loc (VT d L) ↦[(wtM).view.set]{fullShare} w) ∗ ⌜Winner.Upto (idN (m (idsLoc d))) 16384 w⌝)
            ∗ (∃ g, (iM).view.loc (VT d L) ↦[(iM).view.set]{fullShare} g)
            ∗ (∃ g, (rM).view.loc (VT d L) ↦[(rM).view.set]{fullShare} g)
            ∗ (∃ g, (wM).view.loc (VT d L) ↦[(wM).view.set]{fullShare} g)
            ∗ (∃ g, (lM).view.loc (VT d L) ↦[(lM).view.set]{fullShare} g)
            ∗ cells0 d L
            ∗ ∃ W', ⌜∀ p ∈ W', p ∈ W ∨ p.2 = none⌝ ∗ owes (VT d L) O W') := by
  iintro ⟨#Hmw, HX, HI, Ho, Ht, HG, HR, Hw, Hl, ⟨Hc0, Hc1, Hc2, Hc3, Hc4⟩, HO⟩
  sl_unfold [gatherK, cc0__gather_winner]
  have hin := fun g => idPay_inb m d L hpre g (idPay m d L) rfl
  sl_exec (disch := first | sl_exact hc | omega)
  ihave Ho := (Entails.of_eq (old_value d L _ (tile_run_on.sl.dma0_1 m d L r0 hin) (gath (m (tabLoc d)) (m (idsLoc d))) (fun y => (congrFun (View.read_writes_whole (Val := Elt F) (rM).view r0 _) y).trans
    (gathered m d L hpre _ (View.read_writes_whole (Val := Elt F) (iM).view _ (idPay m d L)) _ _ y)))) $$ Ho
  ihave Hl := (Entails.of_eq (list_value m d L _ (tile_run_on.sl.dma0_2 m d) (View.read_whole (Val := Elt F) (main_arg0_scv : Ref sig .scVector) (m (idsLoc d))))) $$ Hl
  ihave Hw := (Entails.of_eq (pts_wM d L _)) $$ Hw
  sl_for (fun k _ => inv0 m d L k) $$ [Hw Hl]
  case region =>
    intro k acc
    exact trip d L (m (idsLoc d)) (hpre d) hc k acc
  · isplitl [Hw]
    · iexists _; isplitl [Hw]; · iexact Hw
      ipureintro; exact Winner.upto_zero _ _
    · iexact Hl
  iintro %_ ⟨⟨%w, Hw, %hw⟩, Hl⟩
  ihave Hw := (Entails.of_eq (pts_wM d L _).symm) $$ Hw
  sl_exec
  sl_step
  ihave Ht := (Entails.of_eq (table_value d L _ (tile_run_on.sl.dma0_3 (F := F) w) w (View.read_whole (Val := Elt F) (cc0_scoped3 : Ref sig .scVector) w))) $$ Ht
  ihave Hl := (Entails.of_eq (pts_lM d L _).symm) $$ Hl
  isplitl [HX]; · iexact HX
  isplitl [HI]; · iexact HI
  isplitl [Ho]; · iexact Ho
  isplitl [Ht]
  · iexists _; isplitl [Ht]; · iexact Ht
    ipureintro; exact hw
  isplitl [HG]; · iexists _; iexact HG
  isplitl [HR]; · iexists _; iexact HR
  isplitl [Hw]; · iexists _; iexact Hw
  isplitl [Hl]; · iexists _; iexact Hl
  isplitl [Hc0 Hc1 Hc2 Hc3 Hc4]
  · isplitl [Hc0]; · iexact Hc0
    isplitl [Hc1]; · iexact Hc1
    isplitl [Hc2]; · iexact Hc2
    isplitl [Hc3]; · iexact Hc3
    iexact Hc4
  iexists _; isplitr [HO]; swap; · iexact HO
  ipureintro; intro p hp
  simp only [Finset.mem_insert] at hp
  rcases hp with rfl | rfl | rfl | rfl | rfl | hp
  · exact .inr rfl
  · exact .inr rfl
  · exact .inr rfl
  · exact .inr rfl
  · exact .inr rfl
  · exact .inl hp

/-! ## The tile's task -/

theorem pts_tabM (q : PosShare TreeShare) (f : Buf (Elt F) (tabLoc d)) :
    ((tabM).view.loc (VT d L) ↦{q} f : sProp 𝕄) = tabLoc d ↦{q} f := rfl

theorem tile_body (hpre : PreOK m) (hF : (K (F := F)).Facts) (O : CellTallies nD τ sig (HIx 2)) (hO : ∀ g, O g none = 0) (W : Waits sig (HIx 2)) :
    (iprop(levAts (K (F := F)).L (K (F := F)).lev ∗ emp ∗ go0 m d L ∗ scopedBufs (VT d L) ∗ scopedSems0 (VT d L) ∗ owes (VT d L) O W) : sProp 𝕄)
      ⊢ wp frame (wpE (defs₀ (F := F)) 𝒱₀ (VT d L) none) Set.univ (gatherK (F := F) L)
          fun _ => iprop(td0 m d L ∗ scopedBufs (VT d L) ∗ scopedSems0 (VT d L)
            ∗ ∃ W', ⌜∀ p ∈ W', p ∈ W ∨ p.2 = none ∨ p.2 = some (0 : Fin 2)⌝ ∗ owes (VT d L) O W') := by
  rw [(K (F := F)).scopedBufs_V hF d (cV L) (jV L), SparseCore.Cfg.scopedSems0_V (Val := Elt F) d (cV L) (jV L), ownSems0_V, ownBufs_V]
  unfold go0 td0
  rcases Classical.em (k0_cond1 L = 1#1) with hc | hc
  · rw [if_pos hc, if_pos hc]
    iintro ⟨#Hlv, _, ⟨HX, HI, ⟨%f0, Ho⟩, ⟨%t0, Ht⟩⟩, ⟨⟨%g0, HG⟩, ⟨%r0, HR⟩, ⟨%w0, Hw⟩, ⟨%l0, Hl⟩, Hrest⟩, ⟨Hc, Hcr⟩, HO⟩
    ihave Hmw := (show levAts (K (F := F)).L (K (F := F)).lev ⊢ Transfers.MayWaits (VT d L) (default : HIx 2) O from
      (K (F := F)).mayWaits_none (thr := VT d L) hO) $$ Hlv
    ihave HG := (Entails.of_eq (pts_iM d L _).symm) $$ HG
    ihave HR := (Entails.of_eq (pts_rM d L _).symm) $$ HR
    ihave Hw := (Entails.of_eq (pts_wM d L _).symm) $$ Hw
    ihave Hl := (Entails.of_eq (pts_lM d L _).symm) $$ Hl
    ihave Ht := (Entails.of_eq (pts_wtM d L _).symm) $$ Ht
    iapply (wp_wand_r Idealize.ShloMosaic.frame (wpE (defs₀ (F := F)) 𝒱₀ (VT d L) none) Set.univ)
    isplitl [Hmw HX HI Ho Ht HG HR Hw Hl Hc HO]
    · iapply (tile_run_on m d L hpre hc O W f0 t0 g0 r0 w0 l0)
      isplitl [Hmw]; · iexact Hmw
      isplitl [HX]; · iexact HX
      isplitl [HI]; · iexact HI
      isplitl [Ho]; · iexact Ho
      isplitl [Ht]; · iexact Ht
      isplitl [HG]; · iexact HG
      isplitl [HR]; · iexact HR
      isplitl [Hw]; · iexact Hw
      isplitl [Hl]; · iexact Hl
      isplitl [Hc]; · iexact Hc
      iexact HO
    iintro %_ ⟨HX, HI, Ho, ⟨%w, Ht, %hw⟩, ⟨%g, HG⟩, ⟨%r, HR⟩, ⟨%wf, Hw⟩, ⟨%l, Hl⟩, Hc, %W', %hW', HO⟩
    isplitl [HX HI Ho Ht]
    · isplitl [HX]; · iexact HX
      isplitl [HI]; · iexact HI
      isplitl [Ho]; · iexact Ho
      iexists _; isplitl [Ht]; · iapply (Entails.of_eq (pts_wtM d L _)); iexact Ht
      ipureintro; exact hw
    isplitl [HG HR Hw Hl Hrest]
    · isplitl [HG]; · iexists _; iapply (Entails.of_eq (pts_iM d L _)); iexact HG
      isplitl [HR]; · iexists _; iapply (Entails.of_eq (pts_rM d L _)); iexact HR
      isplitl [Hw]; · iexists _; iapply (Entails.of_eq (pts_wM d L _)); iexact Hw
      isplitl [Hl]; · iexists _; iapply (Entails.of_eq (pts_lM d L _)); iexact Hl
      iexact Hrest
    isplitl [Hc Hcr]
    · isplitl [Hc]; · iexact Hc
      iexact Hcr
    iexists W'; isplitr [HO]; swap; · iexact HO
    ipureintro; intro p hp; exact (hW' p hp).imp_right .inl
  · rw [if_neg hc, if_neg hc]
    iintro ⟨#Hlv, _, ⟨HX, HI, ⟨%f0, Ho⟩, Ht⟩, ⟨⟨%g0, HG⟩, ⟨%r0, HR⟩, ⟨%w0, Hw⟩, ⟨%l0, Hl⟩, Hrest⟩, ⟨Hc, Hcr⟩, HO⟩
    ihave Hmw := (show levAts (K (F := F)).L (K (F := F)).lev ⊢ Transfers.MayWaits (VT d L) (default : HIx 2) O from
      (K (F := F)).mayWaits_none (thr := VT d L) hO) $$ Hlv
    ihave HG := (Entails.of_eq (pts_iM d L _).symm) $$ HG
    ihave HR := (Entails.of_eq (pts_rM d L _).symm) $$ HR
    iapply (wp_wand_r Idealize.ShloMosaic.frame (wpE (defs₀ (F := F)) 𝒱₀ (VT d L) none) Set.univ)
    isplitl [Hmw HX HI Ho HG HR Hc HO]
    · iapply (tile_run_off m d L hpre hc O W f0 g0 r0)
      isplitl [Hmw]; · iexact Hmw
      isplitl [HX]; · iexact HX
      isplitl [HI]; · iexact HI
      isplitl [Ho]; · iexact Ho
      isplitl [HG]; · iexact HG
      isplitl [HR]; · iexact HR
      isplitl [Hc]; · iexact Hc
      iexact HO
    iintro %_ ⟨HX, HI, Ho, ⟨%g, HG⟩, ⟨%r, HR⟩, Hc, %W', %hW', HO⟩
    isplitl [HX HI Ho Ht]
    · isplitl [HX]; · iexact HX
      isplitl [HI]; · iexact HI
      isplitl [Ho]; · iexact Ho
      iexact Ht
    isplitl [HG HR Hw Hl Hrest]
    · isplitl [HG]; · iexists _; iapply (Entails.of_eq (pts_iM d L _)); iexact HG
      isplitl [HR]; · iexists _; iapply (Entails.of_eq (pts_rM d L _)); iexact HR
      isplitl [Hw]; · iexists _; iexact Hw
      isplitl [Hl]; · iexists _; iexact Hl
      iexact Hrest
    isplitl [Hc Hcr]
    · isplitl [Hc]; · iexact Hc
      iexact Hcr
    iexists W'; isplitr [HO]; swap; · iexact HO
    ipureintro; intro p hp; exact (hW' p hp).imp_right .inl

theorem defs₀_vector0 (c : Fin τ.nSC) (i : Fin τ.nSub) :
    (defs₀ (F := F) (.scVector c i) 0 () : Prog (TpuEff nD τ sig (Elt F) Λ₀ (.scVector c i)) PUnit)
      = SparseCore.onTile hcore0 hsub0 (fun c i => gatherK (F := F) (coordsV c i)) ⟨⟩ c i := rfl

variable (N : Dev nD → S16384x128.Idx → Elt F .f32)

set_option maxRecDepth 16384 in
theorem tileObl0 (hpre : PreOK m) : (K (F := F)).TileObl (D (F := F)) 𝒱 (P m N) v₀ 0 := by
  intro d c i O W hO _ _
  simp only [show (P m N).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]
  simp only [SparseCore.onTile, hci, and_self, ↓reduceDIte]
  exact tile_body m d (coordsV ⟨_, hci.1⟩ ⟨_, hci.2⟩) hpre facts O hO W

end Cert.Proof

end
-- ==== Proof.RaceScatter.lean ====
/- Rows scattered to places other tiles may write at the same time.

   The issue of an indirect scatter, as rows of one batch of row transfers on its semaphore: each row's
   write is an update the issuer supplies (it need not own the row), and each row's landing delivers what
   that update yields with the row's source and the row's list entry.

   The update of one position's row of the output: the output sits in the race's invariant, the position's
   record says which of the row's elements are written, and the written values are the final ones. -/
module

public import proofs.«01_k».proof.Proof.GatherTile
public import Idealize.ShloMosaic.Lib.Batch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.ExclCount

variable {F : FTy → Type} [FloatOps F]

local notation "𝕄" => MT nD τ sig (HIx 2) (Elt F) ℕ UU ℕ

/-! ## A stream of rows in a batch -/

section Issue

variable {Λ : Labels} {defs : Defs nD τ sig (Elt F) Λ} (𝒱 : Variants) (c : Thread nD τ) (bd : Option 𝒱.V)
variable {sp : Space} {s₀ s si : Shape} {e : EltTy} {a : Nat} {α : Type}

/-- Of a batch's transfers not yet issued from `j` on, the next `o` and those after them. -/
theorem pending_take {n : ℕ} (Φ : Fin n → sProp 𝕄) (o j : ℕ) (h : j + o ≤ n) :
    bigSep (Transfers.pending j) Φ
      = iprop(bigSep Finset.univ (fun k : Fin o => Φ ⟨j + k.val, by omega⟩) ∗ bigSep (Transfers.pending (j + o)) Φ) := by
  classical
  let f : Fin o ↪ Fin n := ⟨fun k => ⟨j + k.val, by omega⟩, fun k k' h => Fin.ext (by simpa using h)⟩
  have e : Transfers.pending (n := n) j = Finset.univ.map f ∪ Transfers.pending (j + o) := by
    ext t
    simp only [Transfers.pending, Finset.mem_filter, Finset.mem_univ, true_and, Finset.mem_union, Finset.mem_map]
    constructor
    · intro ht
      by_cases hlt : t.val < j + o
      · exact .inl ⟨⟨t.val - j, by omega⟩, Fin.ext (by show j + (t.val - j) = t.val; omega)⟩
      · exact .inr (by omega)
    · rintro (⟨k, rfl⟩ | ht)
      · show j ≤ j + k.val; omega
      · omega
  have hd : Disjoint (Finset.univ.map f) (Transfers.pending (n := n) (j + o)) := by
    refine Finset.disjoint_left.mpr fun t ht ht' => ?_
    obtain ⟨k, -, rfl⟩ := Finset.mem_map.mp ht
    have : j + o ≤ j + k.val := (Finset.mem_filter.mp ht').2
    have := k.isLt; omega
  rw [e, BI.bigSep_union hd, BI.bigSep_map]; rfl

/-- What row `k` of a scatter leaves at its landing: what its write yields, its list entry's share, its source row's. -/
def rowPart (src : Memref sig c.2.kind .vmem s e) (hg : s₀.Gathers a s) (offs : Memref sig c.2.kind .vmem si .i32)
    (hn : si.numel = s.size hg.axis') (q qo : PosShare TreeShare) (fs : Buf (Elt F) (src.view.loc c)) (fo : Buf (Elt F) (offs.view.loc c))
    (B : Fin (s.size hg.axis') → sProp 𝕄) (k : Fin (s.size hg.axis')) : sProp 𝕄 :=
  iprop((B k ∗ (offs.view.loc c ↦[{offs.view.emb (si.rowMajor.symm (k.cast hn.symm))}]{qo} fo))
    ∗ (src.view.loc c ↦[(src.view.slice (s.rowRect hg.axis' k)).set]{q} fs))

instance (src : Memref sig c.2.kind .vmem s e) (hg : s₀.Gathers a s) (offs : Memref sig c.2.kind .vmem si .i32)
    (hn : si.numel = s.size hg.axis') (q qo : PosShare TreeShare) (fs : Buf (Elt F) (src.view.loc c)) (fo : Buf (Elt F) (offs.view.loc c))
    (B : Fin (s.size hg.axis') → sProp 𝕄) [∀ k, BI.Storable (upEmb : UEmb _ 𝕄) (B k)] (k : Fin (s.size hg.axis')) :
    BI.Storable (upEmb : UEmb _ 𝕄) (rowPart c src hg offs hn q qo fs fo B k) := by unfold rowPart; infer_instance

theorem entries_bijective {o : ℕ} (hn : si.numel = o) :
    Function.Bijective fun k : Fin o => si.rowMajor.symm (k.cast hn.symm) :=
  si.rowMajor.symm.bijective.comp (finCongr hn.symm).bijective

/-- All rows landed: the writes' yields, the source and the list. -/
theorem rowPart_join {src : Memref sig c.2.kind .vmem s e} {hg : s₀.Gathers a s} {offs : Memref sig c.2.kind .vmem si .i32}
    {hn : si.numel = s.size hg.axis'} {q qo : PosShare TreeShare} {fs : Buf (Elt F) (src.view.loc c)} {fo : Buf (Elt F) (offs.view.loc c)}
    {B : Fin (s.size hg.axis') → sProp 𝕄} :
    bigSep Finset.univ (rowPart c src hg offs hn q qo fs fo B)
      ⊢ iprop(bigSep Finset.univ B ∗ (src.view.loc c ↦[src.view.set]{q} fs) ∗ (offs.view.loc c ↦[offs.view.set]{qo} fo)) := by
  unfold rowPart
  iintro H
  ihave H1 := Transfers.bigSep_sep_out _ _ _ $$ H
  icases H1 with ⟨H2, Hs⟩
  ihave H3 := Transfers.bigSep_sep_out _ _ _ $$ H2
  icases H3 with ⟨HB, Ho⟩
  isplitl [HB]; · iexact HB
  isplitl [Hs]
  · iapply (Entails.of_eq (pointsTo_rows c src.view hg.axis' q fs).symm) $$ Hs
  · iapply (Entails.of_eq (pointsTo_entries c offs.view _ (entries_bijective hn) qo fo).symm) $$ Ho

/-- The issue of a scatter whose rows are the batch's transfers `j, …, j + o - 1`. -/
theorem wp_scatterBatch {n : ℕ}
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    {Q : α → sProp 𝕄} (ι : HIx 2) (N₀ : ℕ) {D : Fin n → sProp 𝕄} {j u : ℕ} (hj : j + s.size hg.axis' ≤ n) (hu : u ≤ j * N₀)
    (hin : ∀ x, (offs.view.read (Elt F) fo x).toNat < s₀.size hg.axis)
    (hN : ∀ r, (dst.slice (s₀.rowRect hg.axis r) (s₀.stride_rowRect hg.axis _)).view.dmaCredit = N₀)
    {A B : Fin (s.size hg.axis') → sProp 𝕄}
    (hA : ∀ i, A i ⊢ writeUpdate c (dst.view.slice (s₀.rowRect hg.axis (SparseCore.rows (offs.view.read (Elt F) fo) hn hin i)))
        (SparseCore.scatterRowPayload c src hg fs i) (B i))
    (hD : ∀ i : Fin (s.size hg.axis'), rowPart c src hg offs hn q qo fs fo B i ⊢ D ⟨j + i.val, by omega⟩) :
    iprop((src.view.loc c ↦[src.view.set]{q} fs) ∗ (bigSep Finset.univ A)
        ∗ (offs.view.loc c ↦[offs.view.set]{qo} fo) ∗ Transfers.Batch (countersEmb (U := UU)) c (.dma sem) ι N₀ D j u)
      ⊢ iprop((Transfers.Batch (countersEmb (U := UU)) c (.dma sem) ι N₀ D (j + s.size hg.axis') u
              -∗ wp frame (wpE defs 𝒱 c bd) Set.univ (k ⟨⟩) Q)
          -∗ wp frame (wpE defs 𝒱 c bd) Set.univ (SparseCore.enqueueIndirectScatter hp src dst hg offs hn sem he hsp hr >>= k) Q) := by
  classical
  rw [SparseCore.enqueueIndirectScatter_bind]
  let Sm : Stream nD τ sig (Elt F) :=
    Stream.issued c offs.view hn sem (fun i w => (SparseCore.rowOf (s₀.size hg.axis) w).map (SparseCore.scatterRow c src dst hg sem he hsp hr i)) 0
  let r : Fin (s.size hg.axis') → Fin (s₀.size hg.axis) := SparseCore.rows (offs.view.read (Elt F) fo) hn hin
  let rd : Fin (s.size hg.axis') → RowDma τ sig (Elt F) c.2 sem := fun i => SparseCore.scatterRow c src dst hg sem he hsp hr i (r i)
  have hag : Sm.RowsAgree := by
    intro i x x' ρ ρ' h h'
    obtain ⟨_, _, rfl⟩ := Option.map_eq_some_iff.mp h
    obtain ⟨_, _, rfl⟩ := Option.map_eq_some_iff.mp h'
    rfl
  have hrd : ∀ i, Sm.row i (Sm.word fo i) = some (rd i) := fun i => by
    change (SparseCore.rowOf (s₀.size hg.axis) (offs.view.read (Elt F) fo (Sm.entry i))).map _ = _
    rw [SparseCore.rowOf_of_lt (hin _)]; rfl
  have hsrcset : ∀ i, (src.view.slice (s.rowRect hg.axis' i)).set = (rd i).src.view.set := fun i =>
    (View.set_cast (v := src.view.slice (s.rowRect hg.axis' i)) _ _).symm
  have hsum : ∑ i, (rd i).dst.view.dmaCredit = s.size hg.axis' * N₀ := by
    rw [Finset.sum_congr rfl fun i _ => hN (r i), Finset.sum_const, Finset.card_univ, Fintype.card_fin, smul_eq_mul]
  unfold Transfers.Batch
  iintro ⟨Hs, HA, Ho, ⟨%γ, %γ₀, %κ, #Hinv, Hpend, H0, Hcred⟩⟩ Hk
  ihave Hpend' := (Entails.of_eq (pending_take (fun t => count (countersEmb (U := UU)) (γ t) 0) (s.size hg.axis') j hj)) $$ Hpend
  icases Hpend' with ⟨Hγ, Hrest⟩
  ihave Ho' := (Entails.of_eq (pointsTo_entries c offs.view Sm.entry (entries_bijective hn) qo fo)) $$ Ho
  ihave Hs' := (Entails.of_eq (pointsTo_rows c src.view hg.axis' q fs)) $$ Hs
  iapply (wp_enqueueIndirectDma 𝒱 c bd Set.univ (qo := qo) (fo := fo) (rd := rd) ι (s.size hg.axis' * N₀) hag hrd hsum) $$ [HA Ho' Hs' Hγ]
  · have hrow : ∀ i : Fin (s.size hg.axis'), iprop(inv κ (Transfers.batchBody (countersEmb (U := UU)) (c, SemLoc.dma sem) N₀ D γ γ₀)
          ∗ (((A i ∗ Sm.heldEntry qo fo i) ∗ (src.view.loc c ↦[(src.view.slice (s.rowRect hg.axis' i)).set]{q} fs))
            ∗ count (countersEmb (U := UU)) (γ ⟨j + i.val, by omega⟩) 0))
        ⊢ iprop(Sm.heldEntry qo fo i ∗ (Sm.heldEntry qo fo i -∗ rowRes c (rd i))) := fun i => by
      iintro ⟨#Hinv, ⟨⟨HA, He⟩, Hsq⟩, Hγi⟩
      isplitl [He]; · iexact He
      iintro He
      unfold rowRes
      iexists q, fs, iprop(B i ∗ Sm.heldEntry qo fo i)
      isplitl [Hsq]; · iapply (Entails.of_eq (congrArg (fun I => (src.view.loc c ↦[I]{q} fs : sProp 𝕄)) (hsrcset i))) $$ Hsq
      isplitl [HA He]
      · iapply writeUpdate_frame
        isplitl [HA]
        · iapply (hA i) $$ HA
        · iexact He
      · iapply (Entails.of_eq (show (creditUpdate (c, SemLoc.dma sem) N₀ 0
            iprop((B i ∗ Sm.heldEntry qo fo i) ∗ (src.view.loc c ↦[(src.view.slice (s.rowRect hg.axis' i)).set]{q} fs)) : sProp 𝕄)
            = creditUpdate (c, SemLoc.dma sem) ((rd i).dst.view.amount (.dma sem)) 0
            iprop((B i ∗ Sm.heldEntry qo fo i) ∗ ((rd i).src.view.loc c ↦[(rd i).src.view.set]{q} fs)) from by
              rw [hsrcset i]
              exact congrArg (fun w => creditUpdate (c, SemLoc.dma sem) w 0 _) (hN (r i)).symm))
        iapply (Transfers.batch_creditUpdate (countersEmb (U := UU)) (N := N₀) (D := D) (γ := γ) (γ₀ := γ₀) ⟨j + i.val, by omega⟩ (hD i))
        isplitr; · iexact Hinv
        iexact Hγi
    unfold Stream.res
    ihave H1 := Transfers.bigSep_sep_in _ _ _ $$ [HA Ho']; · isplitl [HA] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hnew
    iapply Hk
    iexists γ, γ₀, κ
    isplitr; · iexact Hinv
    isplitl [Hrest]; · iexact Hrest
    isplitl [H0]; · iexact H0
    have ha : (j + s.size hg.axis') * N₀ - u = (j * N₀ - u) + s.size hg.axis' * N₀ := by rw [Nat.add_mul]; omega
    rw [ha, ← tallyAt_add]
    icombine Hcred Hnew as H
    iexact H

end Issue

/-! ## The update of one position's row -/

section Update

variable (d : Dev nD) (L : grid0.Coords)

/-- The output, as the scatters name it, and one of its rows. -/
abbrev outM : Memref sig .scVector .hbm S100000x128 .f32 :=
  (Memref.whole main_v9_scv).slice (Rect.unit (s := S100000x128) ![0, 0] S100000x128.size inb_S100000x128_S100000x128_0_0) (fun _ => rfl)
abbrev outRow (r : Fin (S100000x128.size 0)) := outM.view.slice (S100000x128.rowRect 0 r)

theorem outRow_emb (r : Fin (S100000x128.size 0)) (y : RowIdx) : (outRow r).emb y = rowAt r.val r.isLt y := by
  have h0 : (y (0 : Fin 2)).val = 0 := by
    have : (y (0 : Fin 2)).val < 1 := (y (0 : Fin 2)).isLt
    omega
  funext a; match a with
  | (0 : Fin 2) => exact Fin.ext (by show 0 + 1 * (r.val + 1 * (y (0 : Fin 2)).val) = r.val; rw [h0]; omega)
  | (1 : Fin 2) => exact Fin.ext (by show 0 + 1 * (0 + 1 * (y (1 : Fin 2)).val) = (y (1 : Fin 2)).val; omega)

theorem rowAt_inj {r : ℕ} {hr : r < 100000} {y y' : RowIdx} (h : rowAt r hr y = rowAt r hr y') : y = y' := by
  have h1 : y (1 : Fin 2) = y' (1 : Fin 2) := congrFun h (1 : Fin 2)
  funext a; match a with
  | (0 : Fin 2) => exact Fin.ext (by
      have h0 : (y (0 : Fin 2)).val < 1 := (y (0 : Fin 2)).isLt
      have h0' : (y' (0 : Fin 2)).val < 1 := (y' (0 : Fin 2)).isLt
      omega)
  | (1 : Fin 2) => exact h1

/-- More of a position's row written with the final values: what was good stays good, with the record advanced. -/
theorem Good.write [DecidableEq Pos] {ids : S16384.Idx → BitVec 32} {G f : S100000x128.Idx → Elt F .f32} {done : Pos → Finset RowIdx}
    (h : Good ids G f done) (b : Pos) (r : Fin (S100000x128.size 0)) (hr : idN ids (pos b).val = r.val)
    (w : RowIdx → Elt F .f32) (hw : ∀ y, w y = G (rowAt r.val r.isLt y)) (M' U : Finset RowIdx) (hU : ∀ y ∈ U, y ∈ done b ∨ y ∈ M') :
    Good ids G ((outRow r).write (Elt F) f w M') (Function.update done b U) := by
  have hin : ∀ y ∈ M', (outRow r).write (Elt F) f w M' (rowAt r.val r.isLt y) = G (rowAt r.val r.isLt y) := fun y hy =>
    (congrArg _ (outRow_emb r y).symm).trans ((View.write_emb_of_mem (v := outRow r) f w hy).trans ((cast_eq _ _).trans (hw y)))
  have hout : ∀ x, (∀ y ∈ M', rowAt r.val r.isLt y ≠ x) → (outRow r).write (Elt F) f w M' x = f x := fun x hx => by
    refine View.write_of_not_mem _ _ _ fun hm => ?_
    obtain ⟨y, hy, e⟩ := Finset.mem_map.mp hm
    exact hx y hy ((outRow_emb r y).symm.trans e)
  refine ⟨fun b' y hy hlt => ?_, fun x hx => ?_⟩
  · by_cases hm : ∃ y' ∈ M', rowAt r.val r.isLt y' = rowAt _ hlt y
    · obtain ⟨y', hy', e⟩ := hm
      rw [← e]; exact hin y' hy'
    · rw [hout _ fun y' hy' e => hm ⟨y', hy', e⟩]
      by_cases hb : b' = b
      · subst hb
        rw [Function.update_self] at hy
        rcases hU y hy with h' | h'
        · exact h.1 _ y h' hlt
        · refine absurd ⟨y, h', ?_⟩ hm
          show ix2 _ _ = ix2 _ _
          congr 1; exact Fin.ext hr.symm
      · rw [Function.update_of_ne hb] at hy
        exact h.1 _ y hy hlt
  · rw [hout x fun y _ e => hx b (by rw [hr, ← e]; rfl)]
    exact h.2 x hx

set_option maxRecDepth 65536 in
/-- One instalment of a position's row write: the record goes from `M` to any `U` within `M` and what is written now. -/
theorem race_step {ids : S16384.Idx → BitVec 32} {G : S100000x128.Idx → Elt F .f32} {ι : ℕ} (b : Pos)
    (r : Fin (S100000x128.size 0)) (hr : idN ids (pos b).val = r.val) (w : (S100000x128.rowRect 0 r).shape.Idx → Elt F .f32)
    (hw : ∀ y : RowIdx, w y = G (rowAt r.val r.isLt y)) (M M' U : Finset RowIdx) (hU : ∀ y ∈ U, y ∈ M ∨ y ∈ M') :
    iprop(inv ι (raceBody d ids G) ∗ wr b M)
      ⊢ (atomically frame Set.univ (storeSpec (VT d L) (outRow r) w M') (fun _ => wr b U) : sProp 𝕄) := by
  classical
  iintro ⟨#Hinv, Hb⟩
  imod (inv_acc (Set.mem_univ ι)) $$ Hinv with ⟨Hbody, Hclose⟩
  unfold raceBody
  icases Hbody with (⟨%f, %done, Hout, Hauth, %hg⟩ | Hidle)
  · unfold wr wrAuth
    ihave Hp := (auths_pick EM (γ := fun b : Pos => (pos b).val) (fun b => enc (done b)) b) $$ Hauth
    icases Hp with ⟨Ha, Hput⟩
    ihave %he := (countAuth_count_agree EM (γ := (pos b).val) (m := enc (done b)) (n := enc M)) $$ [Ha Hb]
    · isplitl [Ha] <;> iassumption
    have hM : M = done b := enc_injective he
    subst hM
    imodintro
    iapply (Entails.of_eq (storeSpec_apply (VT d L) (outRow r) w M' _).symm)
    iexists Finset.univ, f
    isplitl [Hout]; · iexact Hout
    isplitr; · ipureintro; exact Finset.subset_univ _
    iintro Hout
    imod (countAuth_count_update EM (γ := (pos b).val) (n := enc (done b)) (enc U)) $$ [Ha Hb] with ⟨Ha, Hb⟩
    · isplitl [Ha] <;> iassumption
    ihave Hauth := Hput $$ %(enc U) Ha
    ihave Hc := Hclose $$ [Hout Hauth]
    · ileft
      iexists ((outRow r).write (Elt F) f w M'), Function.update done b U
      isplitl [Hout]; · iexact Hout
      isplitl [Hauth]
      · have e : (fun t' : Pos => countAuth EM (pos t').val (Function.update (fun b => enc (done b)) b (enc U) t'))
            = (fun b' : Pos => countAuth EM (pos b').val (enc (Function.update done b U b')) : Pos → sProp 𝕄) := by
          funext b'
          by_cases hb : b' = b
          · subst hb; rw [Function.update_self, Function.update_self]
          · rw [Function.update_of_ne hb, Function.update_of_ne hb]
        iapply (Entails.of_eq (congrArg (bigSep Finset.univ) e)) $$ Hauth
      · ipureintro
        exact hg.write b r hr w hw M' _ hU
    imod Hc
    imodintro
    iexact Hb
  · iexfalso
    ihave H := (show bigSep Finset.univ (fun b : Pos => iprop(wrAuth b ∅ ∗ wr b ∅ : sProp 𝕄))
        ⊢ iprop((wrAuth b ∅ ∗ wr b ∅) ∗ bigSep (Finset.univ.erase b) (fun b : Pos => iprop(wrAuth b ∅ ∗ wr b ∅ : sProp 𝕄)))
      from Entails.of_eq (BI.bigSep_erase (Φ := fun b : Pos => iprop(wrAuth b ∅ ∗ wr b ∅ : sProp 𝕄)) (Finset.mem_univ b))) $$ Hidle
    icases H with ⟨⟨-, H⟩, -⟩
    unfold wr
    iapply (count_count_false EM (γ := (pos b).val) (m := enc ∅) (n := enc M))
    isplitl [H] <;> iassumption

/-- The write of a position's row, from the race's invariant and the right to advance the position's record. -/
theorem race_update {ids : S16384.Idx → BitVec 32} {G : S100000x128.Idx → Elt F .f32} {ι : ℕ} (b : Pos)
    (r : Fin (S100000x128.size 0)) (hr : idN ids (pos b).val = r.val) (w : (S100000x128.rowRect 0 r).shape.Idx → Elt F .f32)
    (hw : ∀ y : RowIdx, w y = G (rowAt r.val r.isLt y)) :
    iprop(inv ι (raceBody d ids G) ∗ wr b ∅) ⊢ (writeUpdate (VT d L) (outRow r) w (wr b Finset.univ) : sProp 𝕄) := by
  iintro ⟨#Hinv, Hb⟩
  iapply (Entails.of_eq (writeUpdateFrom_def (VT d L) (outRow r) w ∅ (wr b Finset.univ)).symm)
  iexists fun M : Finset RowIdx => wr b M
  isplitl [Hb]; · iexact Hb
  isplitr
  swap; · iintro H; iexact H
  iapply (Entails.of_eq (writeSteps_def (VT d L) (outRow r) w (fun M : Finset RowIdx => wr b M)).symm)
  imodintro
  iintro %M %M' Hb
  iapply (race_step d L b r hr w hw M M' _ fun y hy => Finset.mem_union.mp hy)
  isplitr; · iexact Hinv
  iexact Hb

end Update

end Cert.Proof

end
-- ==== Proof.ScatterTile.lean ====
/- A tile of the second SparseCore call: its 512 indices fetched, the winners they name looked up in the
   winner table, the winners' new rows gathered, and the rows scattered to the output in four streams. -/
module

public import proofs.«01_k».proof.Proof.RaceScatter

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.ExclCount

variable {F : FTy → Type} [FloatOps F]

local notation "𝕄" => MT nD τ sig (HIx 2) (Elt F) ℕ UU ℕ

variable (m : (ℓ : Loc nD τ sig) → Buf (Elt F) ℓ) (d : Dev nD) (L : grid0.Coords)

/-- The tile's winner indices, its indices, the indices by streams, its rows; the new rows in the chip's memory. -/
abbrev wiM : Memref sig .scVector .vmem S512 .i32 := Memref.whole cc3_scratch0
abbrev ibM : Memref sig .scVector .vmem S512 .i32 := Memref.whole cc3_scratch1
abbrev sxM : Memref sig .scVector .vmem S4x128 .i32 := Memref.whole cc3_scratch2
abbrev rbM : Memref sig .scVector .vmem S512x128 .f32 := Memref.whole cc3_scratch3
abbrev nrM : Memref sig .scVector .hbm S16384x128 .f32 := Memref.whole main_v7_scv
abbrev idsPiece3 (L : grid0.Coords) : Memref sig .scVector .hbm S512 .i32 :=
  (idsM).slice (Rect.unit (s := S16384) (k3_off1 L) S512.size (k3_off1_inb L)) (fun _ => rfl)

abbrev csem3 (k : Nat) (hk : k < 4 := by decide) : DmaSem sig := ⟨20 + k, show 20 + k < 24 by omega⟩
/-- The four cells the task names, at zero. -/
abbrev cells3 (d : Dev nD) (L : grid0.Coords) : sProp 𝕄 :=
  iprop(semVal (VT d L, SemLoc.dma (csem3 0)) 0 ∗ semVal (VT d L, SemLoc.dma (csem3 1)) 0 ∗ semVal (VT d L, SemLoc.dma (csem3 2)) 0
    ∗ semVal (VT d L, SemLoc.dma (csem3 3)) 0)

/-- The call's body at the buffers it is given. -/
abbrev scatterK (L : grid0.Coords) : Prog (TpuEff nD τ sig (Elt F) Λ₀ (.scVector (cV L) (jV L))) PUnit :=
  cc3__scatter_rows (F := F) L (Memref.whole main_arg0_scv) (Memref.isWhole_whole _) (Memref.whole main_v3_1_scv) (Memref.isWhole_whole _)
    (Memref.whole main_v7_scv) (Memref.isWhole_whole _) (Memref.whole main_v9_scv) (Memref.isWhole_whole _) (Memref.whole main_v9_scv) (Memref.isWhole_whole _)
    (Memref.whole cc3_scratch0) (Memref.isWhole_whole _) (Memref.whole cc3_scratch1) (Memref.isWhole_whole _) (Memref.whole cc3_scratch2) (Memref.isWhole_whole _)
    (Memref.whole cc3_scratch3) (Memref.isWhole_whole _) cc3_scratch4 cc3_scratch5 cc3_scratch6 cc3_scoped0

/-- What the index fetch brings: the tile's 512 indices. -/
abbrev idPay3 : S512.Idx → Elt F .i32 := ReadAs.same.apply ((idsPiece3 L).view.read (Elt F) (m (idsLoc d)))

theorem idPay3_toNat (x : S512.Idx) :
    (idPay3 m d L x).toNat = idN (m (idsLoc d)) (1024 * (L 1).val + 512 * (L 0).val + (x 0).val) := by
  have h1 : (L 1).val < 16 := (L 1).isLt
  have h0 : (L 0).val < 2 := (L 0).isLt
  have hx : (x 0).val < 512 := (x 0).isLt
  have e : idPay3 m d L x = m (idsLoc d) ((idsPiece3 L).view.emb x) := (View.read_apply _ _).trans (cast_eq _ _)
  rw [e]; unfold idN; rw [dif_pos (by omega)]
  congr 2
  funext a
  match a with
  | 0 =>
    refine Fin.ext ?_
    show k3_off1 L 0 + 1 * (x 0).val = 1024 * (L 1).val + 512 * (L 0).val + (x 0).val
    rw [k3_off1_eq]; show 1024 * (L 1).val + 512 * (L 0).val + 1 * (x 0).val = _; omega

theorem idPay3_lt (hpre : PreOK m) (x : S512.Idx) : (idPay3 m d L x).toNat < 100000 := by
  rw [idPay3_toNat]; unfold idN; split
  · exact hpre d _
  · decide

theorem idPay3_inb (hpre : PreOK m) (g : Buf (Elt F) ((ibM).view.loc (VT d L))) :
    ∀ x, (View.read (Elt F) (ibM).view ((ibM).view.writes (Elt F) g [⟨Rect.whole cc3_scratch1.ty.shape, idPay3 m d L⟩]) x).toNat < 100000 := by
  intro x
  have e := View.read_writes_whole (Val := Elt F) (ibM).view g (idPay3 m d L)
  refine lt_of_eq_of_lt (congrArg (fun y : S512.Idx → Elt F .i32 => (y x).toNat) e) (idPay3_lt m d L hpre x)

/-- The list position of the tile's index `n`. -/
abbrev tpos (L : grid0.Coords) (n : ℕ) (hn : n < 512) : Fin 16384 := ⟨1024 * (L 1).val + 512 * (L 0).val + n, by
  have h1 : (L 1).val < 16 := (L 1).isLt
  have h0 : (L 0).val < 2 := (L 0).isLt
  omega⟩

/-- The winner table read through the look-up's slice. -/
abbrev wtAll : Memref sig .scVector .hbm S100000 .i32 :=
  (wtM).slice (Rect.unit (s := S100000) ![0] S100000.size inb_S100000_S100000_0) (fun _ => rfl)

theorem wtAll_read (f : S100000.Idx → Elt F .i32) : (wtAll).view.read (Elt F) f = f := by
  funext x
  rw [View.read_apply]
  refine (cast_eq _ _).trans (congrArg f ?_)
  funext a
  match a with
  | 0 => exact Fin.ext (show 0 + 1 * (x 0).val = (x 0).val by omega)

/-- The look-up brings, for each of the tile's indices, the last position naming the same row. -/
theorem looked (hpre : PreOK m) (wt : S100000.Idx → Elt F .i32) (hwt : Winner.Upto (idN (m (idsLoc d))) 16384 wt)
    (w : S512.Idx → Elt F .i32) (hw : w = idPay3 m d L) (hn : S512.numel = S512.size gathers_S100000_S512.axis')
    (hin : ∀ x, (w x).toNat < S100000.size gathers_S100000_S512.axis) (y : S512.Idx) (b : Fin 16384)
    (hb : IsLast (m (idsLoc d)) (idN (m (idsLoc d)) (tpos L (y 0).val (y 0).isLt).val) b) :
    SparseCore.gatherPayload gathers_S100000_S512 ((wtAll).view.read (Elt F) wt) (SparseCore.rows w hn hin) y = BitVec.ofNat 32 b.val := by
  subst hw
  rw [wtAll_read]
  unfold SparseCore.gatherPayload
  refine hwt b.val b.isLt (fun i' hlt hi' => ?_) _ ?_
  · rw [hb.1]; exact hb.2 ⟨i', hi'⟩ hlt
  · rw [hb.1]
    refine (congrArg Fin.val (Shape.Gathers.idx_axis gathers_S100000_S512 _ y)).trans ?_
    show (idPay3 m d L (S512.rowMajor.symm ((y 0).cast hn.symm))).toNat = _
    have e : ((S512.rowMajor.symm ((y 0).cast hn.symm) : S512.Idx) 0).val = (y 0).val := by
      rw [← rowMajor_line, Equiv.apply_symm_apply]; rfl
    rw [idPay3_toNat, e]

/-- The new rows read through the gather's slice. -/
abbrev nrAll : Memref sig .scVector .hbm S16384x128 .f32 :=
  (nrM).slice (Rect.unit (s := S16384x128) ![0, 0] S16384x128.size inb_S16384x128_S16384x128_0_0) (fun _ => rfl)

theorem nrAll_read (f : S16384x128.Idx → Elt F .f32) : (nrAll).view.read (Elt F) f = f := by
  funext x
  rw [View.read_apply]
  refine (cast_eq _ _).trans (congrArg f ?_)
  funext a
  match a with
  | 0 => exact Fin.ext (show 0 + 1 * (x 0).val = (x 0).val by omega)
  | 1 => exact Fin.ext (show 0 + 1 * (x 1).val = (x 1).val by omega)

/-- The gather brings, for each of the tile's indices, the new row of the last position naming the same table row. -/
theorem rows_gathered (nr : S16384x128.Idx → Elt F .f32) (w : S512.Idx → Elt F .i32)
    (hw : ∀ (y : S512.Idx) (b : Fin 16384), IsLast (m (idsLoc d)) (idN (m (idsLoc d)) (tpos L (y 0).val (y 0).isLt).val) b →
      w y = BitVec.ofNat 32 b.val)
    (hn : S512.numel = S512x128.size gathers_S16384x128_S512x128.axis')
    (hin : ∀ x, (w x).toNat < S16384x128.size gathers_S16384x128_S512x128.axis) (y : S512x128.Idx) (b : Fin 16384)
    (hb : IsLast (m (idsLoc d)) (idN (m (idsLoc d)) (tpos L (y 0).val (y 0).isLt).val) b) :
    SparseCore.gatherPayload gathers_S16384x128_S512x128 ((nrAll).view.read (Elt F) nr) (SparseCore.rows w hn hin) y = nr (ixo b (y 1)) := by
  rw [nrAll_read]
  unfold SparseCore.gatherPayload
  congr 1
  funext a
  match a with
  | 0 =>
    refine Fin.ext ?_
    refine (congrArg Fin.val (Shape.Gathers.idx_axis gathers_S16384x128_S512x128 _ y)).trans ?_
    show (w (S512.rowMajor.symm ((y 0).cast hn.symm))).toNat = b.val
    have e : ((S512.rowMajor.symm ((y 0).cast hn.symm) : S512.Idx) 0) = y 0 := by
      refine Fin.ext ?_
      rw [← rowMajor_line, Equiv.apply_symm_apply]; rfl
    have hb' := b.isLt
    rw [hw (S512.rowMajor.symm ((y 0).cast hn.symm)) b (by simp only [e]; exact hb), BitVec.toNat_ofNat]
    omega
  | 1 =>
    refine Fin.ext ?_
    exact Shape.Gathers.idx_of_ne gathers_S16384x128_S512x128 _ y 1 (by decide)

/-! ## The lists of the four streams -/

/-- The tile's indices by streams: entry `c` of stream `r` is index `128 r + c`. -/
def sxV : S4x128.Idx → Elt F .i32 := fun x => idPay3 m d L (fun | 0 => ⟨128 * (x 0).val + (x 1).val, by
  have h0 : (x 0).val < 4 := (x 0).isLt
  have h1 : (x 1).val < 128 := (x 1).isLt
  show _ < 512; omega⟩)

/-- One register of indices stored. -/
theorem list_piece (n a b : ℕ) (hn : n = 128 * a + b) (inb : ∀ i, (![n] : Fin 1 → ℕ) i + S16.size i ≤ S512.size i)
    (inb2 : ∀ i, (![a, b] : Fin 2 → ℕ) i + S1x16.size i ≤ S4x128.size i) (h : S16.ShapeCasts S1x16)
    (x : (Rect.unit (s := S4x128) ![a, b] S1x16.size inb2).shape.Idx) :
    shapeCast S1x16 ((ibM).view.readCov [⟨Rect.whole S512, idPay3 m d L⟩] (Rect.unit (s := S512) ![n] S16.size inb).toLoadRect) h x
      = sxV m d L ((Rect.unit (s := S4x128) ![a, b] S1x16.size inb2).emb x) := by
  have h0 : (x 0).val < 1 := (x 0).isLt
  have h1 : (x 1).val < 16 := (x 1).isLt
  let k : S16.Idx := fun | 0 => ⟨(x 1).val, h1⟩
  have hk : (S16.rowMajor k).val = (S1x16.rowMajor x).val := by
    rw [Shape.rowMajor_val_one, Shape.rowMajor_val_two]
    show (x 1).val = (x 0).val * 16 + (x 1).val
    omega
  refine (congrArg _ (Shape.reshapeEquiv_eq_of_rowMajor h hk)).trans ?_
  refine (congrFun (View.read_writes_whole (Val := Elt F) (ibM).view (ibM).view.junk (idPay3 m d L)) _).trans ?_
  unfold sxV
  congr 1
  funext i
  match i with
  | 0 =>
    refine Fin.ext ?_
    show n + 1 * (x 1).val = 128 * (a + 1 * (x 0).val) + (b + 1 * (x 1).val)
    omega

theorem lists_value (Lst : List (View.Piece (Elt F) S4x128 .i32)) (x0 : Buf (Elt F) ((VT d L).loc cc3_scratch2))
    (hL : ∀ p ∈ Lst, ∀ x, p.2 x = sxV m d L (p.1.emb x)) (ht : View.Piece.tiled Lst ![1, 16] = true) :
    ((sxM).view.loc (VT d L) ↦[(sxM).view.set]{fullShare} (sxM).view.writes (Elt F) x0 Lst : sProp 𝕄)
      ⊢ (sxM).view.loc (VT d L) ↦[(sxM).view.set]{fullShare} sxV m d L := by
  refine Entails.of_eq (pointsTo_congr fun y _ => ?_)
  have e := View.read_writes_apply_of_pieces (Val := Elt F) (v := (sxM).view) (f := x0) (sxV m d L) Lst hL y (View.cover_of_tiled Lst ![1, 16] ht y)
  rw [View.read_whole (Val := Elt F) (cc3_scratch2 : Ref sig .scVector)] at e
  exact e

/-! ## The streams -/

theorem src_inb (j : Fin 4) : ∀ a, (![128 * j.val, 0] : Fin 2 → ℕ) a + S128x128.size a ≤ S512x128.size a := by
  have := j.isLt
  intro a; match a with
  | 0 => show 128 * j.val + 128 ≤ 512; omega
  | 1 => show 0 + 128 ≤ 128; omega
theorem off_inb (j : Fin 4) : ∀ a, (![j.val, 0] : Fin 2 → ℕ) a + S1x128.size a ≤ S4x128.size a := by
  have := j.isLt
  intro a; match a with
  | 0 => show j.val + 1 ≤ 4; omega
  | 1 => show 0 + 128 ≤ 128; omega

/-- Stream `j`'s rows and its list. -/
abbrev srcM (j : Fin 4) : Memref sig .scVector .vmem S128x128 .f32 :=
  (rbM).slice (Rect.unit (s := S512x128) ![128 * j.val, 0] S128x128.size (src_inb j)) (fun _ => rfl)
abbrev offM (j : Fin 4) : Memref sig .scVector .vmem S128 .i32 :=
  ((sxM).slice (Rect.unit (s := S4x128) ![j.val, 0] S1x128.size (off_inb j)) (fun _ => rfl)).squeeze S128 squeezes_S1x128_S128

theorem offM_emb (j : Fin 4) (y : S128.Idx) : (offM j).view.emb y = (fun | 0 => j | 1 => y 0 : S4x128.Idx) := by
  have e : Shape.reshapeEquiv squeezes_S1x128_S128.numel_eq y = (fun | 0 => ⟨0, Nat.one_pos⟩ | 1 => y 0 : S1x128.Idx) :=
    Shape.reshapeEquiv_eq_of_rowMajor _ (by
      rw [Shape.rowMajor_val_one, Shape.rowMajor_val_two]
      show 0 * 128 + (y 0).val = (y 0).val
      omega)
  show (Rect.unit (s := S4x128) ![j.val, 0] S1x128.size (off_inb j)).emb (Shape.reshapeEquiv squeezes_S1x128_S128.numel_eq y) = _
  rw [e]
  funext a
  match a with
  | 0 => exact Fin.ext (show j.val + 1 * 0 = j.val from rfl)
  | 1 => exact Fin.ext (show 0 + 1 * (y 0).val = (y 0).val by omega)

/-- Entry `y` of stream `j`'s list. -/
theorem offM_read (j : Fin 4) (y : S128.Idx) :
    ((offM j).view.read (Elt F) (sxV m d L) y).toNat = idN (m (idsLoc d)) (pos (posAt L j (y 0))).val := by
  rw [View.read_apply]
  refine (congrArg BitVec.toNat ((cast_eq _ _).trans (congrArg (sxV m d L) (offM_emb j y)))).trans ?_
  refine (idPay3_toNat m d L _).trans (congrArg _ ?_)
  show 1024 * (L 1).val + 512 * (L 0).val + (128 * j.val + (y 0).val) = 1024 * (L 1).val + 512 * (L 0).val + 128 * j.val + (y 0).val
  omega

theorem idxEquiv_val {f g : Fin 2 → ℕ} (h : (⟨2, f⟩ : Shape) = ⟨2, g⟩) (y : (⟨2, g⟩ : Shape).Idx) (b : Fin 2) :
    (((Shape.idxEquiv h).symm y : (⟨2, f⟩ : Shape).Idx) b).val = (y b).val := by
  have : f = g := by injection h
  subst this; rfl

/-- What row `k` of stream `j` carries. -/
theorem srcM_row (j : Fin 4) (k : Fin 128) (gv : S512x128.Idx → Elt F .f32) (y : RowIdx) :
    SparseCore.scatterRowPayload (VT d L) (srcM j) gathers_S100000x128_S128x128 gv k y
      = gv (fun | 0 => ⟨128 * j.val + k.val, by have := j.isLt; have := k.isLt; show _ < 512; omega⟩ | 1 => y (1 : Fin 2)) := by
  have h0 : (y (0 : Fin 2)).val = 0 := by
    have : (y (0 : Fin 2)).val < 1 := (y (0 : Fin 2)).isLt
    omega
  refine (View.read_apply _ _).trans ((cast_eq _ _).trans (congrArg gv ?_))
  funext a
  match a with
  | (0 : Fin 2) =>
    refine Fin.ext ?_
    have e : ((Shape.idxEquiv (gathers_S100000x128_S128x128.rowShape_eq)).symm y (0 : Fin 2)).val = (y (0 : Fin 2)).val :=
      idxEquiv_val _ y 0
    refine (show _ = 128 * j.val + 1 * (k.val + 1 * ((Shape.idxEquiv (gathers_S100000x128_S128x128.rowShape_eq)).symm y (0 : Fin 2)).val) from rfl).trans ?_
    rw [e, h0]
    show _ = 128 * j.val + k.val
    omega
  | (1 : Fin 2) =>
    refine Fin.ext ?_
    have e : ((Shape.idxEquiv (gathers_S100000x128_S128x128.rowShape_eq)).symm y (1 : Fin 2)).val = (y (1 : Fin 2)).val :=
      idxEquiv_val _ y 1
    refine (show _ = 0 + 1 * (0 + 1 * ((Shape.idxEquiv (gathers_S100000x128_S128x128.rowShape_eq)).symm y (1 : Fin 2)).val) from rfl).trans ?_
    rw [e]
    show _ = (y (1 : Fin 2)).val
    omega

variable (N : Dev nD → S16384x128.Idx → Elt F .f32)

/-- The new rows, gathered by the tile. -/
def RowsOK (gv : S512x128.Idx → Elt F .f32) : Prop :=
  ∀ (y : S512x128.Idx) (b : Fin 16384), IsLast (m (idsLoc d)) (idN (m (idsLoc d)) (tpos L (y 0).val (y 0).isLt).val) b → gv y = N d (ixo b (y 1))

abbrev tokS (j : Fin 4) : PosShare TreeShare := Transfers.shareTokN fullShare j.val
/-- What row `k` of stream `j` leaves. -/
def dat (gv : S512x128.Idx → Elt F .f32) (j : Fin 4) (k : Fin 128) : sProp 𝕄 :=
  rowPart (VT d L) (srcM j) gathers_S100000x128_S128x128 (offM j) rfl (tokS j) (tokS j) gv (sxV m d L)
    (fun k => wr (posAt L j k) Finset.univ) k
def datOf (gv : S512x128.Idx → Elt F .f32) (t : Fin (4 * 128)) : sProp 𝕄 :=
  dat m d L gv (finProdFinEquiv.symm t).1 (finProdFinEquiv.symm t).2

instance (gv : S512x128.Idx → Elt F .f32) (j : Fin 4) (k : Fin 128) : BI.Storable (upEmb : UEmb _ 𝕄) (dat m d L gv j k) := by
  unfold dat rowPart; infer_instance
instance (gv : S512x128.Idx → Elt F .f32) (t : Fin (4 * 128)) : BI.Storable (upEmb : UEmb _ 𝕄) (datOf m d L gv t) := by
  unfold datOf; infer_instance

/-- The tile's batch of row writes, `o` issued and `u` units consumed. -/
abbrev rowsBatch (gv : S512x128.Idx → Elt F .f32) (o u : ℕ) : sProp 𝕄 :=
  Transfers.Batch (n := 4 * 128) (countersEmb (U := UU)) (VT d L) (.dma (csem3 2)) (default : HIx 2) 4096 (datOf m d L gv) o u

theorem offM_lt (hpre : PreOK m) (j : Fin 4) (x : S128.Idx) : ((offM j).view.read (Elt F) (sxV m d L) x).toNat < 100000 := by
  rw [offM_read]; unfold idN; split
  · exact hpre d _
  · decide

omit [FloatOps F] in
theorem row_numel : (S100000x128.rowShape 0).numel = 128 := by decide
omit [FloatOps F] in
theorem row_credit (r : Fin (S100000x128.size 0)) : (outRow r).dmaCredit = 4096 := by
  refine (show (outRow r).dmaCredit = (S100000x128.rowShape 0).numel * 32 from rfl).trans ?_
  rw [row_numel]
omit [FloatOps F] in
theorem src_credit (j : Fin 4) : (srcM j).view.dmaCredit = 128 * 4096 := by
  refine (show (srcM j).view.dmaCredit = S128x128.numel * 32 from rfl).trans ?_
  rw [show S128x128.numel = 16384 from by decide]

/-- The write of one row of a stream. -/
theorem row_update (hpre : PreOK m) {gv : S512x128.Idx → Elt F .f32} (hgv : RowsOK m d L N gv) {ι : ℕ} (j : Fin 4) (i : Fin 128)
    (r : Fin (S100000x128.size 0)) (hr : idN (m (idsLoc d)) (pos (posAt L j i)).val = r.val) :
    iprop(inv ι (raceBody d (m (idsLoc d)) (outG m N d)) ∗ wr (posAt L j i) ∅)
      ⊢ (writeUpdate (VT d L) (outRow r) (SparseCore.scatterRowPayload (VT d L) (srcM j) gathers_S100000x128_S128x128 gv i)
          (wr (posAt L j i) Finset.univ) : sProp 𝕄) := by
  refine race_update d L (posAt L j i) r hr _ fun y => ?_
  obtain ⟨b, hb⟩ := exists_last (m (idsLoc d)) (pos (posAt L j i))
  refine (srcM_row d L j i gv y).trans ((hgv _ b ?_).trans ?_)
  · have e : (tpos L (128 * j.val + i.val) (by have := j.isLt; have := i.isLt; omega)).val = (pos (posAt L j i)).val := by
      show 1024 * (L 1).val + 512 * (L 0).val + (128 * j.val + i.val) = 1024 * (L 1).val + 512 * (L 0).val + 128 * j.val + i.val
      omega
    rw [← e] at hb
    exact hb
  · rw [hr] at hb
    exact (scat_of_last (x := rowAt r.val r.isLt y) hb).symm

theorem dat_at {gv : S512x128.Idx → Elt F .f32} (j : Fin 4) (i : Fin 128) (h : 128 * j.val + i.val < 4 * 128) :
    dat m d L gv j i = datOf m d L gv ⟨128 * j.val + i.val, h⟩ := by
  have e : (⟨128 * j.val + i.val, h⟩ : Fin (4 * 128)) = finProdFinEquiv (j, i) :=
    Fin.ext (by show 128 * j.val + i.val = i.val + 128 * j.val; omega)
  rw [e]
  show _ = dat m d L gv (finProdFinEquiv.symm (finProdFinEquiv (j, i))).1 (finProdFinEquiv.symm (finProdFinEquiv (j, i))).2
  rw [Equiv.symm_apply_apply]

theorem stream_row (hpre : PreOK m) (j : Fin 4) (i : Fin 128) :
    idN (m (idsLoc d)) (pos (posAt L j i)).val
      = (SparseCore.rows (o := 128) (z := 100000) ((offM j).view.read (Elt F) (sxV m d L)) rfl (offM_lt m d L hpre j) i).val := by
  have h := offM_read m d L j (S128.rowMajor.symm (i.cast rfl))
  have e : ((S128.rowMajor.symm (i.cast rfl) : S128.Idx) 0) = i := by
    refine Fin.ext ?_
    rw [← rowMajor_line, Equiv.apply_symm_apply]; rfl
  rw [e] at h
  exact h.symm

set_option maxHeartbeats 1000000 in
theorem stream_issue (hpre : PreOK m) {gv : S512x128.Idx → Elt F .f32} (hgv : RowsOK m d L N gv) {ι : ℕ} (j : Fin 4)
    {hsp : Space.hbm = .hbm ∨ Space.hbm = .shared} {hr : S100000x128.StreamRows 0}
    {α : Type} {Q : α → sProp 𝕄} {k : PUnit.{1} → Prog (TpuEff nD τ sig (Elt F) Λ₀ (.scVector (cV L) (jV L))) α} :
    iprop(inv ι (raceBody d (m (idsLoc d)) (outG m N d))
        ∗ ((srcM j).view.loc (VT d L) ↦[(srcM j).view.set]{tokS j} gv)
        ∗ (bigSep Finset.univ fun k => wr (posAt L j k) ∅)
        ∗ ((offM j).view.loc (VT d L) ↦[(offM j).view.set]{tokS j} sxV m d L)
        ∗ rowsBatch m d L gv (128 * j.val) 0)
      ⊢ iprop((rowsBatch m d L gv (128 * j.val + 128) 0 -∗ wp frame (wpE (defs₀ (F := F)) 𝒱₀ (VT d L) none) Set.univ (k ⟨⟩) Q)
          -∗ wp frame (wpE (defs₀ (F := F)) 𝒱₀ (VT d L) none) Set.univ
            (SparseCore.enqueueIndirectScatter rfl (srcM j) outM gathers_S100000x128_S128x128 (offM j) rfl (csem3 2) rfl hsp hr >>= k) Q) := by
  have hj := j.isLt
  iintro ⟨#Hinv, Hs, Hw, Ho, HB⟩
  ihave HA := (Transfers.bigSep_mono_pers Finset.univ (inv ι (raceBody d (m (idsLoc d)) (outG m N d)))
      (fun k => wr (posAt L j k) ∅) (fun k => iprop(inv ι (raceBody d (m (idsLoc d)) (outG m N d)) ∗ wr (posAt L j k) ∅)) (fun k _ => by
        iintro ⟨#Hi, H⟩; isplitr; · iexact Hi
        iexact H)) $$ [Hw]
  · isplitr; · iexact Hinv
    iexact Hw
  have hD : ∀ (i : Fin 128) (h : 128 * j.val + i.val < 4 * 128), rowPart (VT d L) (srcM j) gathers_S100000x128_S128x128 (offM j) rfl (tokS j) (tokS j) gv (sxV m d L)
    (fun k => wr (posAt L j k) Finset.univ) i ⊢ datOf m d L gv ⟨128 * j.val + i.val, h⟩ := fun i h => Entails.of_eq (dat_at m d L j i h)
  iapply (wp_scatterBatch (F := F) (defs := defs₀) 𝒱₀ (VT d L) none (default : HIx 2) 4096 (hp := rfl) (he := rfl) (hsp := hsp) (hr := hr)
    (k := k) (Q := Q) (hn := rfl) (src := srcM j) (dst := outM) (offs := offM j) (hg := gathers_S100000x128_S128x128) (sem := csem3 2)
    (q := tokS j) (qo := tokS j) (fs := gv) (fo := sxV m d L) (D := datOf m d L gv) (j := 128 * j.val) (u := 0) (by show 128 * j.val + 128 ≤ 4 * 128; omega) (Nat.zero_le _) (offM_lt m d L hpre j)
    row_credit (A := fun k => iprop(inv ι (raceBody d (m (idsLoc d)) (outG m N d)) ∗ wr (posAt L j k) ∅))
    (B := fun k => wr (posAt L j k) Finset.univ) (fun i => row_update m d L N hpre hgv j i _ (stream_row m d L hpre j i))
    (fun i => hD i (by have : i.val < 128 := i.isLt; omega))) $$ [Hs HA Ho HB]
  · isplitl [Hs]; · iexact Hs
    isplitl [HA]; · iexact HA
    isplitl [Ho]; · iexact Ho
    iexact HB

/-- The wait for one stream's rows, while the streams are not all back. -/
theorem stream_wait {gv : S512x128.Idx → Elt F .f32} (j : Fin 4) (u : ℕ) (hu : u + 128 * 4096 ≤ 4096 * 512)
    {O : CellTallies nD τ sig (HIx 2)} {W : Waits sig (HIx 2)} {h1 h2}
    {α : Type} {Q : α → sProp 𝕄} {k : PUnit.{1} → Prog (TpuEff nD τ sig (Elt F) Λ₀ (.scVector (cV L) (jV L))) α} :
    iprop(rowsBatch m d L gv 512 u ∗ owes (VT d L) O W ∗ Transfers.MayWaits (VT d L) (default : HIx 2) O)
      ⊢ iprop((iprop(rowsBatch m d L gv 512 (u + 128 * 4096) ∗ owes (VT d L) O (insert (SemLoc.dma (csem3 2), (default : HIx 2)) W))
            -∗ wp frame (wpE (defs₀ (F := F)) 𝒱₀ (VT d L) none) Set.univ (k ⟨⟩) Q)
          -∗ wp frame (wpE (defs₀ (F := F)) 𝒱₀ (VT d L) none) Set.univ
            (SparseCore.waitIndirectScatter (csem3 2) (srcM j) outM h1 h2 >>= k) Q) := by
  have e := Transfers.wp_waitBatchMulO (defs := defs₀ (F := F)) (countersEmb (U := UU)) 𝒱₀ (VT d L) none (sem := csem3 2) (srcw := outM) (dstw := srcM j)
    (hsrc := h2) (hdst := h1) (k := k) (Q := Q) (default : HIx 2) 128 (src_credit j) (D := datOf m d L gv) (j := 4 * 128) (u := u) hu (O := O) (W := W)
  iintro ⟨HB, HO, Hmw⟩
  iapply e $$ [HB HO Hmw]
  isplitl [HB]; · iexact HB
  isplitl [HO]; · iexact HO
  iapply (Transfers.MayWaits.elim _) $$ Hmw

omit [FloatOps F] in
/-- A buffer lent out in four shares of parts of it, and the way back. -/
theorem lend {ℓ : Loc nD τ sig} {S₀ : Finset (ℓ.ty.shape.Idx)} (f : Buf (Elt F) ℓ) (S : Fin 4 → Finset (ℓ.ty.shape.Idx)) (hS : ∀ j, S j ⊆ S₀) :
    (ℓ ↦[S₀]{fullShare} f : sProp 𝕄)
      ⊢ iprop((bigSep Finset.univ fun j => ℓ ↦[S j]{tokS j} f) ∗ ((bigSep Finset.univ fun j => ℓ ↦[S j]{tokS j} f) -∗ ℓ ↦[S₀]{fullShare} f)) := by
  have e : (bigSep (Finset.range 4) fun i => (ℓ ↦[S₀]{Transfers.shareTokN fullShare i} f : sProp 𝕄))
      = bigSep Finset.univ fun j : Fin 4 => ℓ ↦[S₀]{tokS j} f := by
    rw [show Finset.range 4 = (Finset.univ : Finset (Fin 4)).map Fin.valEmbedding from by decide, bigSep_map]; rfl
  have h1 : (bigSep Finset.univ fun j : Fin 4 => (ℓ ↦[S₀]{tokS j} f : sProp 𝕄))
      ⊢ iprop((bigSep Finset.univ fun j => ℓ ↦[S j]{tokS j} f) ∗ bigSep Finset.univ fun j => ℓ ↦[S₀ \ S j]{tokS j} f) := by
    rw [← bigSep_sep']; exact BI.bigSep_mono fun j _ => (pointsTo_split_subset (hS j)).1
  have h2 : iprop((bigSep Finset.univ fun j => ℓ ↦[S j]{tokS j} f) ∗ bigSep Finset.univ fun j => ℓ ↦[S₀ \ S j]{tokS j} f)
      ⊢ (bigSep Finset.univ fun j : Fin 4 => (ℓ ↦[S₀]{tokS j} f : sProp 𝕄)) := by
    rw [← bigSep_sep']; exact BI.bigSep_mono fun j _ => (pointsTo_split_subset (hS j)).2
  iintro H
  ihave H := (Transfers.pointsTo_toks_range fullShare 4).1 $$ H
  rw [e]
  icases H with ⟨Hd, H⟩
  ihave H := h1 $$ H
  icases H with ⟨HA, HB⟩
  isplitl [HA]; · iexact HA
  iintro HA
  iapply (Transfers.pointsTo_toks_range fullShare 4).2
  rw [e]
  isplitl [Hd]; · iexact Hd
  iapply h2
  isplitl [HA]; · iexact HA
  iexact HB

/-- All four streams back: the rows written, the rows' source and the lists. -/
theorem streams_join {gv : S512x128.Idx → Elt F .f32} :
    (bigSep Finset.univ (datOf m d L gv) : sProp 𝕄)
      ⊢ iprop(td1 (F := F) d L ∗ (bigSep Finset.univ fun j => (srcM j).view.loc (VT d L) ↦[(srcM j).view.set]{tokS j} gv)
          ∗ bigSep Finset.univ fun j => (offM j).view.loc (VT d L) ↦[(offM j).view.set]{tokS j} sxV m d L) := by
  have e : (bigSep Finset.univ (datOf m d L gv) : sProp 𝕄) = bigSep Finset.univ fun j : Fin 4 => bigSep Finset.univ fun k : Fin 128 => dat m d L gv j k := by
    rw [BI.bigSep_univ_equiv (finProdFinEquiv (m := 4) (n := 128)), BI.bigSep_univ_prod]
    refine bigSep_congr fun j _ => bigSep_congr fun k _ => ?_
    show dat m d L gv (finProdFinEquiv.symm (finProdFinEquiv (j, k))).1 (finProdFinEquiv.symm (finProdFinEquiv (j, k))).2 = _
    rw [Equiv.symm_apply_apply]
  rw [e]
  unfold td1
  rw [← bigSep_sep', ← bigSep_sep']
  exact BI.bigSep_mono fun j _ => rowPart_join (VT d L) (src := srcM j) (hg := gathers_S100000x128_S128x128) (offs := offM j) (hn := rfl)
    (q := tokS j) (qo := tokS j) (fs := gv) (fo := sxV m d L) (B := fun k => wr (posAt L j k) Finset.univ)

end Cert.Proof

end
-- ==== Proof.ScatterRun.lean ====
/- A tile of the second SparseCore call run from start to end, and the call's obligation: every row the tile's
   indices name is written, and the writes' tokens say so. -/
module

public import proofs.«01_k».proof.Proof.ScatterTile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.ExclCount

variable {F : FTy → Type} [FloatOps F]

local notation "𝕄" => MT nD τ sig (HIx 2) (Elt F) ℕ UU ℕ

variable (m : (ℓ : Loc nD τ sig) → Buf (Elt F) ℓ) (d : Dev nD) (L : grid0.Coords)

variable (N : Dev nD → S16384x128.Idx → Elt F .f32)

/-- One of the 32 pieces the index list is stored by. -/
theorem piece_ok (n a b : ℕ) (hn : n = 128 * a + b) (hb : n + 16 ≤ 512)
    (inb2 : ∀ i, (![a, b] : Fin 2 → ℕ) i + S1x16.size i ≤ S4x128.size i) (h : S16.ShapeCasts S1x16) (v : S16.Idx → Elt F .i32)
    (hv : v = (ibM).view.readCov [⟨Rect.whole S512, idPay3 m d L⟩] (Rect.unit (s := S512) ![n] S16.size
      (fun i => match i with | 0 => hb)).toLoadRect)
    (x : (Rect.unit (s := S4x128) ![a, b] S1x16.size inb2).shape.Idx) :
    (⟨Rect.unit (s := S4x128) ![a, b] S1x16.size inb2, shapeCast S1x16 v h⟩ : View.Piece (Elt F) S4x128 .i32).2 x
      = sxV m d L ((⟨Rect.unit (s := S4x128) ![a, b] S1x16.size inb2, shapeCast S1x16 v h⟩ : View.Piece (Elt F) S4x128 .i32).1.emb x) := by
  subst hv
  exact list_piece m d L n a b hn _ inb2 h x

/-- The cell the row writes serve. -/
abbrev rowSem : DmaSem sig := csem3 2

omit [FloatOps F] in
theorem four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

set_option maxHeartbeats 4000000 in
theorem scatter_run (hpre : PreOK m) (O : CellTallies nD τ sig (HIx 2)) (W : Waits sig (HIx 2)) {ι : ℕ}
    (wt : Buf (Elt F) (wtLoc d)) (hwt : Winner.Upto (idN (m (idsLoc d))) 16384 wt)
    (w0 : Buf (Elt F) ((VT d L).loc cc3_scratch0)) (g0 : Buf (Elt F) ((VT d L).loc cc3_scratch1))
    (x0 : Buf (Elt F) ((VT d L).loc cc3_scratch2)) (r0 : Buf (Elt F) ((VT d L).loc cc3_scratch3)) :
    (iprop(Transfers.MayWaits (VT d L) (default : HIx 2) O
        ∗ inv ι (raceBody d (m (idsLoc d)) (outG m N d))
        ∗ ((idsM).view.loc (VT d L) ↦{tileSh L} m (idsLoc d))
        ∗ ((wtM).view.loc (VT d L) ↦{tileSh L} wt)
        ∗ ((nrM).view.loc (VT d L) ↦{tileSh L} N d)
        ∗ (bigSep Finset.univ fun j => bigSep Finset.univ fun k => wr (posAt L j k) ∅)
        ∗ ((wiM).view.loc (VT d L) ↦[(wiM).view.set]{fullShare} w0)
        ∗ ((ibM).view.loc (VT d L) ↦[(ibM).view.set]{fullShare} g0)
        ∗ ((sxM).view.loc (VT d L) ↦[(sxM).view.set]{fullShare} x0)
        ∗ ((rbM).view.loc (VT d L) ↦[(rbM).view.set]{fullShare} r0)
        ∗ cells3 d L
        ∗ owes (VT d L) O W) : sProp 𝕄)
      ⊢ wp frame (wpE (defs₀ (F := F)) 𝒱₀ (VT d L) none) Set.univ (scatterK (F := F) L)
          fun _ => iprop(td1 (F := F) d L
            ∗ (∃ g, (wiM).view.loc (VT d L) ↦[(wiM).view.set]{fullShare} g)
            ∗ (∃ g, (ibM).view.loc (VT d L) ↦[(ibM).view.set]{fullShare} g)
            ∗ (∃ g, (sxM).view.loc (VT d L) ↦[(sxM).view.set]{fullShare} g)
            ∗ (∃ g, (rbM).view.loc (VT d L) ↦[(rbM).view.set]{fullShare} g)
            ∗ cells3 d L
            ∗ ∃ W', ⌜∀ p ∈ W', p ∈ W ∨ p.2 = none⌝ ∗ owes (VT d L) O W') := by
  iintro ⟨#Hmw, #Hinv, HI, Ht, Hn, Htk, HW, HG, HX, HR, ⟨Hc0, Hc1, Hc2, Hc3⟩, HO⟩
  sl_unfold [scatterK, cc3__scatter_rows]
  have hin := fun g => idPay3_inb m d L hpre g
  sl_exec (disch := omega)
  have hw1 : ∀ (y : S512.Idx) (b : Fin 16384), IsLast (m (idsLoc d)) (idN (m (idsLoc d)) (tpos L (y 0).val (y 0).isLt).val) b →
      scatter_run.sl.gather1 m d L wt hin y = BitVec.ofNat 32 b.val := fun y b hb =>
    looked m d L hpre wt hwt _ (View.read_writes_whole (Val := Elt F) (ibM).view _ (idPay3 m d L)) _ _ y b hb
  have hw2 := View.read_writes_whole (Val := Elt F) (wiM).view (wiM).view.junk (scatter_run.sl.gather1 m d L wt hin)
  have hin2 : ∀ x : S512.Idx, (View.read (Elt F) (wiM).view
      ((wiM).view.writes (Elt F) (wiM).view.junk [⟨Rect.whole S512, scatter_run.sl.gather1 m d L wt hin⟩]) x).toNat < 16384 := fun x => by
    obtain ⟨b, hb⟩ := exists_last (m (idsLoc d)) (tpos L (x 0).val (x 0).isLt)
    have hb' := b.isLt
    refine lt_of_eq_of_lt (congrArg BitVec.toNat ((congrFun hw2 x).trans (hw1 x b hb))) ?_
    rw [BitVec.toNat_ofNat]; omega

  sl_exec (disch := omega)
  ihave HX := (lists_value m d L _ _ ?hL (by rfl)) $$ HX
  case hL =>
    intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact piece_ok m d L 496 3 112 (by decide) (by decide) _ _ _ rfl
    · exact piece_ok m d L 480 3 96 (by decide) (by decide) _ _ _ rfl
    · exact piece_ok m d L 464 3 80 (by decide) (by decide) _ _ _ rfl
    · exact piece_ok m d L 448 3 64 (by decide) (by decide) _ _ _ rfl
    · exact piece_ok m d L 432 3 48 (by decide) (by decide) _ _ _ rfl
    · exact piece_ok m d L 416 3 32 (by decide) (by decide) _ _ _ rfl
    · exact piece_ok m d L 400 3 16 (by decide) (by decide) _ _ _ rfl
    · exact piece_ok m d L 384 3 0 (by decide) (by decide) _ _ _ rfl
    · exact piece_ok m d L 368 2 112 (by decide) (by decide) _ _ _ rfl
    · exact piece_ok m d L 352 2 96 (by decide) (by decide) _ _ _ rfl
    · exact piece_ok m d L 336 2 80 (by decide) (by decide) _ _ _ rfl
    · exact piece_ok m d L 320 2 64 (by decide) (by decide) _ _ _ rfl
    · exact piece_ok m d L 304 2 48 (by decide) (by decide) _ _ _ rfl
    · exact piece_ok m d L 288 2 32 (by decide) (by decide) _ _ _ rfl
    · exact piece_ok m d L 272 2 16 (by decide) (by decide) _ _ _ rfl
    · exact piece_ok m d L 256 2 0 (by decide) (by decide) _ _ _ rfl
    · exact piece_ok m d L 240 1 112 (by decide) (by decide) _ _ _ rfl
    · exact piece_ok m d L 224 1 96 (by decide) (by decide) _ _ _ rfl
    · exact piece_ok m d L 208 1 80 (by decide) (by decide) _ _ _ rfl
    · exact piece_ok m d L 192 1 64 (by decide) (by decide) _ _ _ rfl
    · exact piece_ok m d L 176 1 48 (by decide) (by decide) _ _ _ rfl
    · exact piece_ok m d L 160 1 32 (by decide) (by decide) _ _ _ rfl
    · exact piece_ok m d L 144 1 16 (by decide) (by decide) _ _ _ rfl
    · exact piece_ok m d L 128 1 0 (by decide) (by decide) _ _ _ rfl
    · exact piece_ok m d L 112 0 112 (by decide) (by decide) _ _ _ rfl
    · exact piece_ok m d L 96 0 96 (by decide) (by decide) _ _ _ rfl
    · exact piece_ok m d L 80 0 80 (by decide) (by decide) _ _ _ rfl
    · exact piece_ok m d L 64 0 64 (by decide) (by decide) _ _ _ rfl
    · exact piece_ok m d L 48 0 48 (by decide) (by decide) _ _ _ rfl
    · exact piece_ok m d L 32 0 32 (by decide) (by decide) _ _ _ rfl
    · exact piece_ok m d L 16 0 16 (by decide) (by decide) _ _ _ rfl
    · exact piece_ok m d L 0 0 0 (by decide) (by decide) _ _ _ rfl
  ihave HR := (Entails.of_eq (pointsTo_congr (g := scatter_run.sl.gather0 m d L N wt hin hin2) fun y _ => by
    have e := congrFun (View.read_writes_whole (Val := Elt F) (rbM).view r0 (scatter_run.sl.gather0 m d L N wt hin hin2)) y
    rw [View.read_whole (Val := Elt F) (cc3_scratch3 : Ref sig .scVector)] at e
    exact e)) $$ HR
  have hgv : RowsOK m d L N (scatter_run.sl.gather0 m d L N wt hin hin2) := fun y b hb =>
    rows_gathered m d L (N d) _ (fun y b hb => (congrFun hw2 y).trans (hw1 y b hb)) _ _ y b hb
  imod (Transfers.batch_alloc' (countersEmb (U := UU)) (c := VT d L) (default : HIx 2) 4096 (datOf m d L (scatter_run.sl.gather0 m d L N wt hin hin2)) (sm := SemLoc.dma (rowSem)) (E := Set.univ)) $$ Hc2 with HB
  ihave HX := (lend (sxV m d L) (fun j => (offM j).view.set) (fun j => by rw [View.set_whole]; exact Finset.subset_univ _)) $$ HX
  icases HX with ⟨HX, HXb⟩
  ihave HR := (lend (scatter_run.sl.gather0 m d L N wt hin hin2) (fun j => (srcM j).view.set) (fun j => by rw [View.set_whole]; exact Finset.subset_univ _)) $$ HR
  icases HR with ⟨HR, HRb⟩
  simp only [four (F := F)]
  icases HX with ⟨HX0, HX1, HX2, HX3⟩
  icases HR with ⟨HR0, HR1, HR2, HR3⟩
  icases Htk with ⟨Htk0, Htk1, Htk2, Htk3⟩
  iapply (stream_issue m d L N hpre hgv (ι := ι) 0) $$ [HX0 HR0 Htk0 HB]
  · isplitr; · iexact Hinv
    isplitl [HR0]; · iexact HR0
    isplitl [Htk0]; · iexact Htk0
    isplitl [HX0]; · iexact HX0
    iexact HB
  iintro HB
  try sl_exec
  iapply (stream_issue m d L N hpre hgv (ι := ι) 1) $$ [HX1 HR1 Htk1 HB]
  · isplitr; · iexact Hinv
    isplitl [HR1]; · iexact HR1
    isplitl [Htk1]; · iexact Htk1
    isplitl [HX1]; · iexact HX1
    iexact HB
  iintro HB
  try sl_exec
  iapply (stream_issue m d L N hpre hgv (ι := ι) 2) $$ [HX2 HR2 Htk2 HB]
  · isplitr; · iexact Hinv
    isplitl [HR2]; · iexact HR2
    isplitl [Htk2]; · iexact Htk2
    isplitl [HX2]; · iexact HX2
    iexact HB
  iintro HB
  try sl_exec
  iapply (stream_issue m d L N hpre hgv (ι := ι) 3) $$ [HX3 HR3 Htk3 HB]
  · isplitr; · iexact Hinv
    isplitl [HR3]; · iexact HR3
    isplitl [Htk3]; · iexact Htk3
    isplitl [HX3]; · iexact HX3
    iexact HB
  iintro HB
  try sl_exec
  iapply (stream_wait m d L (gv := (scatter_run.sl.gather0 m d L N wt hin hin2)) 0 0 (by norm_num)) $$ [HB HO]
  · isplitl [HB]; · iexact HB
    isplitl [HO]; · iexact HO
    iexact Hmw
  iintro ⟨HB, HO⟩
  try sl_exec
  iapply (stream_wait m d L (gv := (scatter_run.sl.gather0 m d L N wt hin hin2)) 1 524288 (by norm_num)) $$ [HB HO]
  · isplitl [HB]; · iexact HB
    isplitl [HO]; · iexact HO
    iexact Hmw
  iintro ⟨HB, HO⟩
  try sl_exec
  iapply (stream_wait m d L (gv := (scatter_run.sl.gather0 m d L N wt hin hin2)) 2 1048576 (by norm_num)) $$ [HB HO]
  · isplitl [HB]; · iexact HB
    isplitl [HO]; · iexact HO
    iexact Hmw
  iintro ⟨HB, HO⟩
  try sl_exec
  sl_step
  sl_step
  iapply (stream_wait m d L (gv := (scatter_run.sl.gather0 m d L N wt hin hin2)) 3 1572864 (by norm_num)) $$ [HB HO]
  · isplitl [HB]; · iexact HB
    isplitl [HO]; · iexact HO
    iexact Hmw
  iintro ⟨HB, HO⟩
  try sl_exec
  imod (Transfers.batch_collect' (countersEmb (U := UU)) (c := VT d L) (sm := SemLoc.dma (rowSem)) (ι := (default : HIx 2)) (N := 4096) (by norm_num) (D := datOf m d L (scatter_run.sl.gather0 m d L N wt hin hin2))) $$ HB with ⟨HD, Hc2⟩
  ihave HD := (streams_join m d L) $$ HD
  icases HD with ⟨Htd, HR, HX⟩
  ihave HX := (Entails.of_eq (four (F := F) _)) $$ HX
  ihave HX := HXb $$ HX
  ihave HR := (Entails.of_eq (four (F := F) _)) $$ HR
  ihave HR := HRb $$ HR
  sl_step
  isplitl [Htd]; · iexact Htd
  isplitl [HW]; · iexists _; iexact HW
  isplitl [HG]; · iexists _; iexact HG
  isplitl [HX]; · iexists _; iexact HX
  isplitl [HR]; · iexists _; iexact HR
  isplitl [Hc0 Hc1 Hc2 Hc3]
  · isplitl [Hc0]; · iexact Hc0
    isplitl [Hc1]; · iexact Hc1
    isplitl [Hc2]; · iexact Hc2
    iexact Hc3
  iexists _; isplitr [HO]; swap; · iexact HO
  ipureintro; intro p hp; simp only [Finset.mem_insert] at hp
  rcases hp with rfl | rfl | rfl | rfl | rfl | rfl | rfl | hp
  all_goals first | exact .inl hp | exact .inr rfl

/-! ## The tile's cells and buffers, and the obligation -/

abbrev dcell3 (d : Dev nD) (c : Fin τ.nSC) (i : Fin τ.nSub) (k : Fin 4) : GSem nD τ sig := (V d c i, .dma (csem3 k.val k.isLt))

omit [FloatOps F] in
theorem dcell3_mem (c : Fin τ.nSC) (i : Fin τ.nSub) (k : Fin 4) : dcell3 d c i k ∈ ownCells (V d c i) :=
  mem_ownCells.mpr ⟨rfl, dma_scoped _⟩

omit [FloatOps F] in
theorem ownSems3_V :
    (ownSems0 (VT d L) : sProp 𝕄)
      = iprop(cells3 d L
          ∗ bigSep ((ownCells (VT d L)) \ Finset.univ.image (dcell3 d (cV L) (jV L))) fun g => semVal g 0) := by
  unfold SparseCore.Cfg.ownSems0
  rw [SparseCore.bigSep_sdiff_split' (t := Finset.univ.image (dcell3 d (cV L) (jV L)))
      (Finset.image_subset_iff.mpr fun k _ => dcell3_mem d (cV L) (jV L) k),
    SparseCore.bigSep_image_of_injOn (fun a _ b _ h => by
      have := congrArg (fun g : GSem nD τ sig => g.2) h
      simp only [SemLoc.dma.injEq, Fin.mk.injEq, Nat.add_left_cancel_iff] at this; exact Fin.ext this), four]
  rfl

/-- The tile's own buffers but the four the task names. -/
abbrev restRefs3 (L : grid0.Coords) : Finset (DevRef τ sig) :=
  ((((ownRefs (τ := τ) (.scVector (cV L) (jV L))).erase ((Proc.scVector (cV L) (jV L)).devRef cc3_scratch0)).erase
      ((Proc.scVector (cV L) (jV L)).devRef cc3_scratch1)).erase ((Proc.scVector (cV L) (jV L)).devRef cc3_scratch2)).erase
      ((Proc.scVector (cV L) (jV L)).devRef cc3_scratch3)

omit [FloatOps F] in
theorem ownBufs3_V :
    (ownBufs (VT d L) : sProp 𝕄)
      = iprop((∃ f, (VT d L).loc cc3_scratch0 ↦{fullShare} f) ∗ (∃ f, (VT d L).loc cc3_scratch1 ↦{fullShare} f)
          ∗ (∃ f, (VT d L).loc cc3_scratch2 ↦{fullShare} f) ∗ (∃ f, (VT d L).loc cc3_scratch3 ↦{fullShare} f)
          ∗ bigSep (restRefs3 L) fun b => iprop(∃ f, ((d, b) : Loc nD τ sig) ↦{fullShare} f)) := by
  unfold SparseCore.Cfg.ownBufs
  have ne {a b : Ref sig .scVector} (h : a ≠ b) : (Proc.scVector (τ := τ) (cV L) (jV L)).devRef a ≠ (Proc.scVector (cV L) (jV L)).devRef b :=
    fun e => h (Proc.devRef_injective _ e)
  have mem0 := SparseCore.Cfg.mem_ownRefs_of_owner (p := Proc.scVector (τ := τ) (cV L) (jV L)) (b := (Proc.scVector (cV L) (jV L)).devRef cc3_scratch0) rfl
  have mem1 := SparseCore.Cfg.mem_ownRefs_of_owner (p := Proc.scVector (τ := τ) (cV L) (jV L)) (b := (Proc.scVector (cV L) (jV L)).devRef cc3_scratch1) rfl
  have mem2 := SparseCore.Cfg.mem_ownRefs_of_owner (p := Proc.scVector (τ := τ) (cV L) (jV L)) (b := (Proc.scVector (cV L) (jV L)).devRef cc3_scratch2) rfl
  have mem3 := SparseCore.Cfg.mem_ownRefs_of_owner (p := Proc.scVector (τ := τ) (cV L) (jV L)) (b := (Proc.scVector (cV L) (jV L)).devRef cc3_scratch3) rfl
  refine (SparseCore.bigSep_erase' mem0).trans ?_
  rw [SparseCore.bigSep_erase' (Finset.mem_erase.mpr ⟨ne (by decide), mem1⟩),
    SparseCore.bigSep_erase' (Finset.mem_erase.mpr ⟨ne (by decide), Finset.mem_erase.mpr ⟨ne (by decide), mem2⟩⟩),
    SparseCore.bigSep_erase' (Finset.mem_erase.mpr ⟨ne (by decide), Finset.mem_erase.mpr ⟨ne (by decide), Finset.mem_erase.mpr ⟨ne (by decide), mem3⟩⟩⟩)]

theorem tile_body1 (hpre : PreOK m) (hF : (K (F := F)).Facts) (O : CellTallies nD τ sig (HIx 2)) (hO : ∀ g, O g none = 0) (W : Waits sig (HIx 2)) :
    (iprop(levAts (K (F := F)).L (K (F := F)).lev ∗ racing m N d ∗ go1 m N d L ∗ scopedBufs (VT d L) ∗ scopedSems0 (VT d L) ∗ owes (VT d L) O W) : sProp 𝕄)
      ⊢ wp frame (wpE (defs₀ (F := F)) 𝒱₀ (VT d L) none) Set.univ (scatterK (F := F) L)
          fun _ => iprop(td1 (F := F) d L ∗ scopedBufs (VT d L) ∗ scopedSems0 (VT d L)
            ∗ ∃ W', ⌜∀ p ∈ W', p ∈ W ∨ p.2 = none ∨ p.2 = some (1 : Fin 2)⌝ ∗ owes (VT d L) O W') := by
  rw [(K (F := F)).scopedBufs_V hF d (cV L) (jV L), SparseCore.Cfg.scopedSems0_V (Val := Elt F) d (cV L) (jV L), ownSems3_V, ownBufs3_V]
  unfold go1 racing
  iintro ⟨#Hlv, ⟨%ι, #Hinv⟩, ⟨HI, ⟨%wt, Ht, %hwt⟩, Hn, Htk⟩, ⟨⟨%w0, HW⟩, ⟨%g0, HG⟩, ⟨%x0, HX⟩, ⟨%r0, HR⟩, Hrest⟩, ⟨Hc, Hcr⟩, HO⟩
  ihave Hmw := (show levAts (K (F := F)).L (K (F := F)).lev ⊢ Transfers.MayWaits (VT d L) (default : HIx 2) O from
    (K (F := F)).mayWaits_none (thr := VT d L) hO) $$ Hlv
  iapply (wp_wand_r Idealize.ShloMosaic.frame (wpE (defs₀ (F := F)) 𝒱₀ (VT d L) none) Set.univ)
  isplitl [Hmw HI Ht Hn Htk HW HG HX HR Hc HO]
  · iapply (scatter_run m d L N hpre O W (ι := ι) wt hwt w0 g0 x0 r0)
    isplitl [Hmw]; · iexact Hmw
    isplitr; · iexact Hinv
    isplitl [HI]; · iexact HI
    isplitl [Ht]; · iexact Ht
    isplitl [Hn]; · iexact Hn
    isplitl [Htk]; · iexact Htk
    isplitl [HW]; · rw [View.set_whole]; iexact HW
    isplitl [HG]; · rw [View.set_whole]; iexact HG
    isplitl [HX]; · rw [View.set_whole]; iexact HX
    isplitl [HR]; · rw [View.set_whole]; iexact HR
    isplitl [Hc]; · iexact Hc
    iexact HO
  iintro %_ ⟨Htd, ⟨%w, HW⟩, ⟨%g, HG⟩, ⟨%x, HX⟩, ⟨%r, HR⟩, Hc, %W', %hW', HO⟩
  isplitl [Htd]; · iexact Htd
  rw [View.set_whole, View.set_whole, View.set_whole, View.set_whole]
  isplitl [HW HG HX HR Hrest]
  · isplitl [HW]; · iexists _; iexact HW
    isplitl [HG]; · iexists _; iexact HG
    isplitl [HX]; · iexists _; iexact HX
    isplitl [HR]; · iexists _; iexact HR
    iexact Hrest
  isplitl [Hc Hcr]
  · isplitl [Hc]; · iexact Hc
    iexact Hcr
  iexists W'; isplitr [HO]; swap; · iexact HO
  ipureintro; intro p hp; exact (hW' p hp).imp_right .inl

theorem defs₀_vector3 (c : Fin τ.nSC) (i : Fin τ.nSub) :
    (defs₀ (F := F) (.scVector c i) 3 () : Prog (TpuEff nD τ sig (Elt F) Λ₀ (.scVector c i)) PUnit)
      = SparseCore.onTile hcore3 hsub3 (fun c i => scatterK (F := F) (coordsV c i)) ⟨⟩ c i := rfl

set_option maxRecDepth 16384 in
theorem tileObl1 (hpre : PreOK m) : (K (F := F)).TileObl (D (F := F)) 𝒱 (P m N) v₀ 1 := by
  intro d c i O W hO _ _
  simp only [show (P m N).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector3]
  have hci' : ((K (F := F)).core 1 c).val < grid3.bound 0 ∧ ((K (F := F)).sub 1 i).val < grid3.bound 1 := hci
  simp only [SparseCore.onTile, hci', and_self, ↓reduceDIte]
  exact tile_body1 m d (coordsV ⟨_, hci.1⟩ ⟨_, hci.2⟩) N hpre facts O hO W

end Cert.Proof

end
-- ==== Proof.CopyRegion.lean ====
/- The table's copy on the TensorCore: five blocks of 20000 rows, each staged, copied and written
   back. After the region the copy's array holds the table. -/
module

public import proofs.«01_k».proof.Proof.ScatterRun
public import proofs.«01_k».proof.Proof.Gen.KernelIdeal.Points
public import Idealize.ShloMosaic.Lib.Pipeline.RegionArrays
public import Idealize.ShloMosaic.Lib.Pipeline.Regions
public import Idealize.ShloMosaic.Lib.Pipeline.FrameBody
public import Idealize.ShloMosaic.Lib.Pipeline.ValueKit.Geometry

@[expose] public section

noncomputable section

namespace Cert.Proof

open Cert.KernelIdeal Cert.KernelIdeal.Gen
open Idealize.ShloMosaic
open Idealize.ShloMosaic.SparseCore.Cfg (HIx Pay)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-! ## The body -/

/-- Memref `M`'s buffer on core `c` held whole at `f`. -/
abbrev pt (c : Dev nD) {sp : Space} {S : Shape} {e : EltTy} (M : Memref sig .tc sp S e) (f : Buf (Elt F) (M.view.loc (c : Thread nD τ))) :
    sProp (MT nD τ sig (HIx 2) (Elt F) ℕ UU ℕ) :=
  M.view.loc (c : Thread nD τ) ↦{fullShare} f

/-- The rectangle at the origin of a shape's own extents embeds every index as itself. -/
theorem full_emb {s : Shape} (off : Fin s.rank → ℕ) (inb : ∀ a, off a + s.size a ≤ s.size a) (y : s.Idx) :
    (Rect.unit off s.size inb).emb y = y := by
  funext a
  apply Fin.ext
  show off a + 1 * (y a).val = (y a).val
  have := inb a; omega

theorem read_full_store {κ : Kind} {sp : Space} {s : Shape} {e : EltTy} (v : View sig κ sp s e) (f : v.ty.Contents (Elt F))
    (off : Fin s.rank → ℕ) (inb : ∀ a, off a + s.size a ≤ s.size a) (x : s.Idx → Elt F e) :
    v.read (Elt F) (v.writes (Elt F) f [⟨Rect.unit off s.size inb, x⟩]) = x := by
  funext y
  have h := View.read_writes_cons_emb (Val := Elt F) v f (Rect.unit off s.size inb) x [] y
  exact (congrArg _ (full_emb off inb y).symm).trans h

theorem read_full_load {κ : Kind} {sp : Space} {s : Shape} {e : EltTy} (v : View sig κ sp s e) (f : v.ty.Contents (Elt F))
    (off : Fin s.rank → ℕ) (inb : ∀ a, off a + s.size a ≤ s.size a) :
    v.readAt (Elt F) (Rect.unit off s.size inb).toLoadRect f = v.read (Elt F) f := by
  funext y
  exact congrArg (v.read (Elt F) f) (full_emb off inb y)

theorem copy_run (c : Dev nD) (i : grid2.Coords) (M0 : Memref sig .tc .vmem S20000x128 .f32) (h0 : M0.IsWhole)
    (M1 : Memref sig .tc .vmem S20000x128 .f32) (h1 : M1.IsWhole) (f0 : Buf (Elt F) (M0.view.loc (c : Thread nD τ)))
    (f1 : Buf (Elt F) (M1.view.loc (c : Thread nD τ))) (Q : PUnit → sProp 𝕄) :
    iprop(pt c M0 f0 ∗ pt c M1 f1 ∗ (iprop(pt c M0 f0 ∗ ∃ W, pt c M1 W ∗ ⌜M1.view.read (Elt F) W = M0.view.read (Elt F) f0⌝) -∗ Q ⟨⟩))
      ⊢ wp frame (wpE (defs₀ (F := F)) Variants.none (c : Thread nD τ) none) Set.univ (cc2__copy_body i M0 h0 M1 h1) Q := by
  iintro ⟨H0, H1, Hk⟩
  sl_exec!
  sl_step
  iapply Hk
  isplitl [H0]; · iexact H0
  iexists _
  isplitl [H1]; · iexact H1
  ipureintro
  unfold copy_run.sl.H1_1
  exact (read_full_store _ _ _ _ _).trans (read_full_load _ _ _ _)

/-! ## The proof data -/

/-- The bound kept on the recorded waits through the TensorCore's regions: none above the first call's. -/
def waitBound (c : Dev nD) : Set (SemLoc sig × HIx 2) := {p | (K (F := F)).lev (SparseCore.T c, p.1) p.2 ≤ 8}

abbrev cpLoc (c : Dev nD) : Loc nD τ sig := (SparseCore.T c).loc main_v8

/-- The table's block at a point. -/
abbrev cpBlk (c : Dev nD) (tab : Buf (Elt F) (tabLoc c)) (t : Fin cfg2.N) : S20000x128.Idx → Elt F .f32 :=
  ((cfg2.win 0).blk t).view.read (Elt F) tab

def dat2 (c : Dev nD) (tab : Buf (Elt F) (tabLoc c)) (f8 : Buf (Elt F) (cpLoc c)) : Dat τ (Elt F) (HIx 2) ℕ UU ℕ cfg2 c where
  A w := match w with
    | ⟨0, _⟩ => tab
    | ⟨1, _⟩ => f8
  after w t := match w with
    | ⟨0, _⟩ => cpBlk c tab t
    | ⟨1, _⟩ => cpBlk c tab t
  Φ _ := Pipeline.scopedRest (Ix := HIx 2) (Name := ℕ) (U := UU) (Lvl := ℕ) (Val := Elt F) spec2 c
  q _ := fullShare
  owed _ := (K (F := F)).Otc c 1
  recorded _ := waitBound (F := F) c

theorem before2_0 (c : Dev nD) (tab : Buf (Elt F) (tabLoc c)) (f8 : Buf (Elt F) (cpLoc c)) (t : Fin cfg2.N)
    (x : (cfg2.win 0).block.Idx → Elt F (cfg2.win 0).elt) : (dat2 c tab f8).before 0 t x = cpBlk c tab t := by
  unfold Dat.before; rw [if_pos (fetch2_0 t)]; rfl

theorem body_obligation2 (c : Dev nD) (tab : Buf (Elt F) (tabLoc c)) (f8 : Buf (Elt F) (cpLoc c)) :
    BodyObligation (dat2 c tab f8) (defs₀ (F := F)) Variants.none none Set.univ := fun t => by
  rw [bigSep_W2, bigSep_W2, show (dat2 c tab f8).Φ t.succ = (dat2 c tab f8).Φ t.castSucc from rfl,
    show (dat2 c tab f8).owesAt none t.succ = (dat2 c tab f8).owesAt none t.castSucc from rfl]
  iintro ⟨HΦ, Howes, ⟨%d0, H0⟩, ⟨%d1, H1⟩⟩
  unfold owns
  rw [((stage_whole2 0 (cfg2.slots t 0))).set_eq_univ, ((stage_whole2 1 (cfg2.slots t 1))).set_eq_univ]
  icases H0 with ⟨%f0, %hf0, H0⟩
  icases H1 with ⟨%f1, -, H1⟩
  rw [before2_0] at hf0
  iapply (copy_run c (grid2.coords t) (win2_0.stage (cfg2.slots t 0)) (hstage2_0 ((cfg2.slots t 0).cast nbuf2_0)) (win2_1.stage (cfg2.slots t 1)) (hstage2_1 ((cfg2.slots t 1).cast nbuf2_1)) f0 f1 _)
  isplitl [H0]; · iexact H0
  isplitl [H1]; · iexact H1
  iintro ⟨H0, %W, H1, %hW⟩
  isplitl [HΦ]; · iexact HΦ
  isplitl [Howes]; · iexact Howes
  isplitl [H0]
  · iexists _; isplitr; swap; (· iexact H0); ipureintro; exact hf0
  iexists _; isplitr; swap; (· iexact H1); ipureintro; exact hW.trans hf0

/-! ## The copied array -/

theorem idx2_0 : ∀ t : Fin cfg2.N, win2_0.index t = ![(grid2.coords t 0).val, 0] :=
  (by decide +kernel : ∀ t : Fin grid2.N, win2_0.index t = ![(grid2.coords t 0).val, 0])
theorem idx2_1 : ∀ t : Fin cfg2.N, win2_1.index t = ![(grid2.coords t 0).val, 0] :=
  (by decide +kernel : ∀ t : Fin grid2.N, win2_1.index t = ![(grid2.coords t 0).val, 0])

theorem final2 (c : Dev nD) (tab : Buf (Elt F) (tabLoc c)) (f8 : Buf (Elt F) (cpLoc c)) :
    (dat2 c tab f8).arrAt 1 cfg2.N = tab := by
  refine (dat2 c tab f8).arrAt_eq_of_covers 1 _ (by decide +kernel) fun t hf y => ?_
  show tab (((cfg2.win 0).blk t).view.emb _) = tab (((cfg2.win 1).blk t).view.emb y)
  congr 1

/-! ## The region -/

abbrev adm : (p : Fin 2) → (pcfgs (F := F) p).Adm := fun p => (cfgs p).toPCfg_adm

/-- What a region leaves of a pipeline it does not run. -/
def junkDat {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

/-- What the TensorCore owes between the two SparseCore calls, with its recorded waits bounded. -/
def owing (c : Dev nD) : sProp (MT nD τ sig (HIx 2) (Elt F) ℕ UU ℕ) :=
  iprop(∃ W, ⌜(K (F := F)).WBelow (SparseCore.T c) W 8⌝ ∗ owes (SparseCore.T c) ((K (F := F)).Otc c 1) W)

theorem owing_cut (c : Dev nD) (g : GSem nD τ sig) (i : HIx 2) (h : 0 < (K (F := F)).Otc c 1 g i) :
    i ∈ (K (F := F)).L g ∧ 0 < (K (F := F)).lev g i := by
  refine ⟨Finset.mem_univ _, ?_⟩
  have := SparseCore.Cfg.lev_of_Otc_pos (K := K (F := F)) h
  omega

theorem owing_of_within (c : Dev nD) {cfg : Cfg sig Λ₀} (dt : Dat τ (Elt F) (HIx 2) ℕ UU ℕ cfg c) (t : Fin (cfg.N + 1))
    (ho : dt.owed t = (K (F := F)).Otc c 1) (hr : dt.recorded t = waitBound (F := F) c) :
    dt.owesAt none t ⊢ owing (F := F) c := by
  unfold Pipeline.Dat.owesAt Pipeline.owesWithin owing Pipeline.Dat.bound
  rw [ho, hr]
  iintro ⟨%W, %hW, H⟩
  iexists W
  isplitr
  · ipureintro
    intro p hp
    rcases hW hp with h | ⟨w, s, h⟩
    · exact h
    · rw [h]; exact Nat.zero_le _
  iexact H

theorem within_of_owing (c : Dev nD) {cfg : Cfg sig Λ₀} (dt : Dat τ (Elt F) (HIx 2) ℕ UU ℕ cfg c) (t : Fin (cfg.N + 1))
    (ho : dt.owed t = (K (F := F)).Otc c 1) (hr : dt.recorded t = waitBound (F := F) c) :
    owing (F := F) c ⊢ dt.owesAt none t := by
  unfold Pipeline.Dat.owesAt Pipeline.owesWithin owing Pipeline.Dat.bound
  rw [ho, hr]
  iintro ⟨%W, %hW, H⟩
  iexists W
  isplitr
  · ipureintro
    exact fun p hp => Or.inl (hW p hp)
  iexact H

def pdats2 (tab : (c : Dev nD) → Buf (Elt F) (tabLoc c)) (f8 : (c : Dev nD) → Buf (Elt F) (cpLoc c)) :
    (p : Fin 2) → (c : Dev nD) → Dat τ (Elt F) (HIx 2) ℕ UU ℕ (Pipeline.pin (pcfgs (F := F)) adm p) c
  | ⟨0, _⟩ => fun c => junkDat c
  | ⟨1, _⟩ => fun c => dat2 c (tab c) (f8 c)

theorem arrays2 (tab : (c : Dev nD) → Buf (Elt F) (tabLoc c)) (f8 : (c : Dev nD) → Buf (Elt F) (cpLoc c)) (c : Dev nD)
    (G : (w : Fin 2) → Buf (Elt F) ((spec2 w).arr.view.loc (c : Thread nD τ))) :
    ((pdats2 tab f8 1 c).arrays G : sProp 𝕄) = iprop((tabLoc c ↦{fullShare} G 0) ∗ (cpLoc c ↦{fullShare} G 1)) := by
  rw [Pipeline.arrays_eq (Pipeline.pin (pcfgs (F := F)) adm) (pdats2 tab f8) (p := 1) c launch2.arr_whole
    ((pdats2 tab f8 1 c).share_full fun _ => rfl) G]
  exact bigSep_W2 _

set_option backward.isDefEq.respectTransparency.types false in
def reg2 (tab : (c : Dev nD) → Buf (Elt F) (tabLoc c)) (f8 : (c : Dev nD) → Buf (Elt F) (cpLoc c)) :
    Pipeline.RegionSeg (pcfgs (F := F)) adm (pdats2 tab f8) none defs₀ Variants.none (K (F := F)).L (K (F := F)).lev 1 where
  win := launch2.win.to₀
  block_pos := launch2.block_pos
  stage_whole := launch2.stage_whole
  K := PEmpty
  osem k := k.elim
  ho := Pipeline.OwnSemFacts.none _
  hbody c := (body_obligation2 c (tab c) (f8 c)).loose
  hwaits c := Pipeline.cellsWaits_of_cut (Pipeline.pin (pcfgs (F := F)) adm) (pdats2 tab f8) none 1 c 0 ((K (F := F)).Otc c 1) (fun _ => rfl)
    (fun _ _ => Finset.mem_univ _) (fun _ _ => le_refl _) (owing_cut c)
  pre c := iprop((tabLoc c ↦{fullShare} tab c) ∗ (cpLoc c ↦{fullShare} f8 c) ∗ owing (F := F) c)
  post c := iprop((tabLoc c ↦{fullShare} tab c) ∗ (cpLoc c ↦{fullShare} tab c) ∗ owing (F := F) c)
  X _ := BI.emp
  Y _ := BI.emp
  Z _ := BI.emp
  hentry c := by
    rw [Pipeline.ownSems0_none, arrays2]
    iintro ⟨⟨Ht, H8, HO⟩, -, -⟩
    imodintro
    isplitl [Ht H8]; · isplitl [Ht]; · iexact Ht
                       iexact H8
    isplitr; · unfold Pipeline.prefHeld; rw [show (Finset.univ : Finset (Fin 0)) = ∅ from rfl, BI.bigSep_empty]; iempintro
    isplitl [HO]; · iapply (within_of_owing c (pdats2 tab f8 1 c) 0 rfl rfl); iexact HO
    isplitr <;> iempintro
  hin c := by
    rw [show (pdats2 tab f8 1 c).Φ 0 = Pipeline.scopedRest spec2 c from rfl]
    iintro ⟨-, -, Hr⟩; iexact Hr
  hout c := by
    rw [Pipeline.ownSems0_none, show (pdats2 tab f8 1 c).Φ (Fin.last _) = Pipeline.scopedRest spec2 c from rfl]
    iintro Hr
    isplitr; · iempintro
    isplitr; · iempintro
    iexact Hr
  hexit c := by
    rw [arrays2, show (pdats2 tab f8 1 c).arrAt 0 (Pipeline.pin (pcfgs (F := F)) adm 1).N = tab c from (dat2 c (tab c) (f8 c)).arrAt_in 0 rfl _,
      show (pdats2 tab f8 1 c).arrAt 1 (Pipeline.pin (pcfgs (F := F)) adm 1).N = tab c from final2 c (tab c) (f8 c)]
    iintro ⟨⟨Ht, H8⟩, HO, -, -⟩
    imodintro
    isplitl [Ht]; · iexact Ht
    isplitl [H8]; · iexact H8
    iapply (owing_of_within c (pdats2 tab f8 1 c) _ rfl rfl); iexact HO

abbrev phinj : Function.Injective (cellOf (nD := nD) (τ := τ) (Pipeline.pin (pcfgs (F := F)) adm)) := cellOf_inj

/-- What the launch deals a pipeline on a core. -/
def dealt (p : Fin 2) (c : Dev nD) : sProp (MT nD τ sig (HIx 2) (Elt F) ℕ UU ℕ) :=
  iprop(Pipeline.cellsGhost (Pipeline.pin (pcfgs (F := F)) adm) EP p c ∗ Pipeline.toksInit (Pipeline.pin (pcfgs (F := F)) adm) EP p c)

/-- The copy's region: the copy's array ends at the table. -/
theorem copy_region (c : Dev nD) (tab : (c : Dev nD) → Buf (Elt F) (tabLoc c)) (f8 : (c : Dev nD) → Buf (Elt F) (cpLoc c)) :
    iprop(boundary (SparseCore.T c) ∗ (tabLoc c ↦{fullShare} tab c) ∗ (cpLoc c ↦{fullShare} f8 c) ∗ owing (F := F) c
        ∗ levAts (K (F := F)).L (K (F := F)).lev ∗ dealt (F := F) 1 c)
      ⊢ wp frame (wpE (D (F := F)) 𝒱 (SparseCore.T c) none) Set.univ (Prog.lift (.customCall (Pipeline.entry (1 : Fin 2)) ()))
          fun _ : PUnit.{1} => iprop(boundary (SparseCore.T c) ∗ (tabLoc c ↦{fullShare} tab c) ∗ (cpLoc c ↦{fullShare} tab c) ∗ owing (F := F) c) := by
  have e : iprop((iprop(boundary (SparseCore.T c) ∗ (tabLoc c ↦{fullShare} tab c) ∗ (cpLoc c ↦{fullShare} tab c) ∗ owing (F := F) c)
          -∗ wp frame (wpE (D (F := F)) 𝒱 (SparseCore.T c) none) Set.univ (Prog.ret PUnit.unit)
              fun _ : PUnit.{1} => iprop(boundary (SparseCore.T c) ∗ (tabLoc c ↦{fullShare} tab c) ∗ (cpLoc c ↦{fullShare} tab c) ∗ owing (F := F) c))
        ∗ boundary (SparseCore.T c) ∗ iprop((tabLoc c ↦{fullShare} tab c) ∗ (cpLoc c ↦{fullShare} f8 c) ∗ owing (F := F) c)
        ∗ levAts (K (F := F)).L (K (F := F)).lev ∗ dealt (F := F) 1 c)
      ⊢ wp frame (wpE (D (F := F)) 𝒱 (SparseCore.T c) none) Set.univ (Prog.lift (.customCall (Pipeline.entry (1 : Fin 2)) ()))
          fun _ : PUnit.{1} => iprop(boundary (SparseCore.T c) ∗ (tabLoc c ↦{fullShare} tab c) ∗ (cpLoc c ↦{fullShare} tab c) ∗ owing (F := F) c) :=
    Pipeline.RegionSeg.wp (pcfgs (F := F)) adm (pdats2 tab f8) none phinj EP defs₀ Variants.none
      (K (F := F)).L (K (F := F)).lev (reg2 tab f8) c none (fun u h => nomatch h) Prog.ret _
  iintro ⟨Hb, Ht, H8, HO, HL, HG⟩
  iapply e
  isplitr
  · iintro H
    rw [wp_ret]
    imodintro
    iexact H
  isplitl [Hb]; · iexact Hb
  isplitl [Ht H8 HO]
  · isplitl [Ht]; · iexact Ht
    isplitl [H8]; · iexact H8
    iexact HO
  isplitl [HL]; · iexact HL
  iexact HG

end Cert.Proof

end
-- ==== Proof.ComputeRegion.lean ====
/- The dense stage on the TensorCore: four blocks of 4096 positions, each the scaled messages and
   gathered rows through the linear layer and the layer norm. After the region its array holds the
   normalised rows, as one function of the arrays it read. -/
module

public import proofs.«01_k».proof.Proof.CopyRegion

@[expose] public section

noncomputable section

namespace Cert.Proof

open Cert.KernelIdeal Cert.KernelIdeal.Gen
open Idealize.ShloMosaic
open Idealize.ShloMosaic.SparseCore.Cfg (HIx Pay)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-! ## The values -/

/-- A block of 4096 normalised rows, from its blocks of messages and gathered rows and the weights. -/
def normBlk (x1 x2 : S4096x128.Idx → Elt F .f32) (wm : S1x256.Idx → Elt F .f32) (wl : S128x256.Idx → Elt F .f32)
    (b g be : S1x128.Idx → Elt F .f32) : S4096x128.Idx → Elt F .f32 :=
  k1_pay1 (k1_pay2 x1 (View.ld wm (Rect.unit (s := S1x256) ![0, 0] S1x128.size inb_S1x256_S1x128_0_0)) x2
    (View.ld wm (Rect.unit (s := S1x256) ![0, 128] S1x128.size inb_S1x256_S1x128_0_128))
    (View.ld wl (Rect.unit (s := S128x256) ![0, 0] S128x128.size inb_S128x256_S128x128_0_0))
    (View.ld wl (Rect.unit (s := S128x256) ![0, 128] S128x128.size inb_S128x256_S128x128_0_128)) b) g be

abbrev ixb (i : Fin 4096) (j : Fin 128) : S4096x128.Idx := fun | 0 => i | 1 => j

/-- Rows `4096 t …` of an array of rows. -/
def rowsAt (x : S16384x128.Idx → Elt F .f32) (t : Fin 4) : S4096x128.Idx → Elt F .f32 :=
  fun y => x (ixo ⟨4096 * t.val + (y 0).val, by have h : (y 0).val < 4096 := (y 0).isLt; have := t.isLt; omega⟩ (y 1))

/-- All the normalised rows. -/
def normed (msgs old : S16384x128.Idx → Elt F .f32) (wm : S1x256.Idx → Elt F .f32) (wl : S128x256.Idx → Elt F .f32)
    (b g be : S1x128.Idx → Elt F .f32) : S16384x128.Idx → Elt F .f32 :=
  fun x => normBlk (rowsAt msgs ⟨(x 0).val / 4096, by have h : (x 0).val < 16384 := (x 0).isLt; omega⟩)
    (rowsAt old ⟨(x 0).val / 4096, by have h : (x 0).val < 16384 := (x 0).isLt; omega⟩) wm wl b g be
    (ixb ⟨(x 0).val % 4096, by omega⟩ (x 1))

/-! ## The body -/

set_option maxHeartbeats 1000000 in
theorem compute_run (c : Dev nD) (i : grid1.Coords)
    (M0 : Memref sig .tc .vmem S4096x128 .f32) (h0 : M0.IsWhole)
    (M1 : Memref sig .tc .vmem S4096x128 .f32) (h1 : M1.IsWhole)
    (M2 : Memref sig .tc .vmem S1x256 .f32) (h2 : M2.IsWhole)
    (M3 : Memref sig .tc .vmem S128x256 .f32) (h3 : M3.IsWhole)
    (M4 : Memref sig .tc .vmem S1x128 .f32) (h4 : M4.IsWhole)
    (M5 : Memref sig .tc .vmem S1x128 .f32) (h5 : M5.IsWhole)
    (M6 : Memref sig .tc .vmem S1x128 .f32) (h6 : M6.IsWhole)
    (M7 : Memref sig .tc .vmem S4096x128 .f32) (h7 : M7.IsWhole)
    (f0 : Buf (Elt F) (M0.view.loc (c : Thread nD τ)))
    (f1 : Buf (Elt F) (M1.view.loc (c : Thread nD τ)))
    (f2 : Buf (Elt F) (M2.view.loc (c : Thread nD τ)))
    (f3 : Buf (Elt F) (M3.view.loc (c : Thread nD τ)))
    (f4 : Buf (Elt F) (M4.view.loc (c : Thread nD τ)))
    (f5 : Buf (Elt F) (M5.view.loc (c : Thread nD τ)))
    (f6 : Buf (Elt F) (M6.view.loc (c : Thread nD τ)))
    (f7 : Buf (Elt F) (M7.view.loc (c : Thread nD τ)))
    (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ (iprop(pt c M0 f0 ∗ pt c M1 f1 ∗ pt c M2 f2 ∗ pt c M3 f3 ∗ pt c M4 f4 ∗ pt c M5 f5 ∗ pt c M6 f6 ∗ ∃ W, pt c M7 W
          ∗ ⌜M7.view.read (Elt F) W = normBlk (M0.view.read (Elt F) f0) (M1.view.read (Elt F) f1) (M2.view.read (Elt F) f2) (M3.view.read (Elt F) f3) (M4.view.read (Elt F) f4) (M5.view.read (Elt F) f5) (M6.view.read (Elt F) f6)⌝) -∗ Q ⟨⟩))
      ⊢ wp frame (wpE (defs₀ (F := F)) Variants.none (c : Thread nD τ) none) Set.univ
          (cc1__compute_body i M0 h0 M1 h1 M2 h2 M3 h3 M4 h4 M5 h5 M6 h6 M7 h7) Q := by
  iintro ⟨H0, H1, H2, H3, H4, H5, H6, H7, Hk⟩
  rw [cc1__compute_body_eq_skeleton]
  unfold cc1__compute_body_skel
  rw [k1_part1_eq_skeleton]
  unfold k1_part1_skel
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _
  isplitl [H7]; · iexact H7
  ipureintro
  unfold compute_run.sl.H7_1
  refine (read_full_store _ _ _ _ _).trans ?_
  unfold normBlk
  rw [show _ = _ from read_full_load M0.view f0 ![0, 0] inb_S4096x128_S4096x128_0_0,
    show _ = _ from read_full_load M1.view f1 ![0, 0] inb_S4096x128_S4096x128_0_0,
    show _ = _ from read_full_load M4.view f4 ![0, 0] inb_S1x128_S1x128_0_0,
    show _ = _ from read_full_load M5.view f5 ![0, 0] inb_S1x128_S1x128_0_0,
    show _ = _ from read_full_load M6.view f6 ![0, 0] inb_S1x128_S1x128_0_0]
  rfl

/-! ## The proof data -/

abbrev msgLoc (c : Dev nD) : Loc nD τ sig := (SparseCore.T c).loc main_arg1
abbrev wmLoc (c : Dev nD) : Loc nD τ sig := (SparseCore.T c).loc main_v2
abbrev wlLoc (c : Dev nD) : Loc nD τ sig := (SparseCore.T c).loc main_arg4
abbrev biasLoc (c : Dev nD) : Loc nD τ sig := (SparseCore.T c).loc main_v4
abbrev gamLoc (c : Dev nD) : Loc nD τ sig := (SparseCore.T c).loc main_v5
abbrev betLoc (c : Dev nD) : Loc nD τ sig := (SparseCore.T c).loc main_v6

/-- The arrays the region is entered with. -/
structure Arrs (F : FTy → Type) where
  msgs : S16384x128.Idx → Elt F .f32
  old : S16384x128.Idx → Elt F .f32
  wm : S1x256.Idx → Elt F .f32
  wl : S128x256.Idx → Elt F .f32
  bias : S1x128.Idx → Elt F .f32
  gam : S1x128.Idx → Elt F .f32
  bet : S1x128.Idx → Elt F .f32
  out : S16384x128.Idx → Elt F .f32

variable (a : Arrs F)

/-- What the region leaves. -/
abbrev Arrs.fin : S16384x128.Idx → Elt F .f32 := normed a.msgs a.old a.wm a.wl a.bias a.gam a.bet

/-- The arrays' blocks at a point. -/
abbrev blk1_0 (a : Arrs F) (t : Fin cfg1.N) : S4096x128.Idx → Elt F .f32 := ((cfg1.win 0).blk t).view.read (Elt F) a.msgs
abbrev blk1_1 (a : Arrs F) (t : Fin cfg1.N) : S4096x128.Idx → Elt F .f32 := ((cfg1.win 1).blk t).view.read (Elt F) a.old
abbrev blk1_2 (a : Arrs F) (t : Fin cfg1.N) : S1x256.Idx → Elt F .f32 := ((cfg1.win 2).blk t).view.read (Elt F) a.wm
abbrev blk1_3 (a : Arrs F) (t : Fin cfg1.N) : S128x256.Idx → Elt F .f32 := ((cfg1.win 3).blk t).view.read (Elt F) a.wl
abbrev blk1_4 (a : Arrs F) (t : Fin cfg1.N) : S1x128.Idx → Elt F .f32 := ((cfg1.win 4).blk t).view.read (Elt F) a.bias
abbrev blk1_5 (a : Arrs F) (t : Fin cfg1.N) : S1x128.Idx → Elt F .f32 := ((cfg1.win 5).blk t).view.read (Elt F) a.gam
abbrev blk1_6 (a : Arrs F) (t : Fin cfg1.N) : S1x128.Idx → Elt F .f32 := ((cfg1.win 6).blk t).view.read (Elt F) a.bet
abbrev blk1_7 (a : Arrs F) (t : Fin cfg1.N) : S4096x128.Idx → Elt F .f32 :=
  normBlk (blk1_0 a t) (blk1_1 a t) (blk1_2 a t) (blk1_3 a t) (blk1_4 a t) (blk1_5 a t) (blk1_6 a t)

def dat1 (c : Dev nD) (a : Arrs F) : Dat τ (Elt F) (HIx 2) ℕ UU ℕ cfg1 c where
  A w := match w with
    | ⟨0, _⟩ => a.msgs
    | ⟨1, _⟩ => a.old
    | ⟨2, _⟩ => a.wm
    | ⟨3, _⟩ => a.wl
    | ⟨4, _⟩ => a.bias
    | ⟨5, _⟩ => a.gam
    | ⟨6, _⟩ => a.bet
    | ⟨7, _⟩ => a.out
  after w t := match w with
    | ⟨0, _⟩ => blk1_0 a t
    | ⟨1, _⟩ => blk1_1 a t
    | ⟨2, _⟩ => blk1_2 a t
    | ⟨3, _⟩ => blk1_3 a t
    | ⟨4, _⟩ => blk1_4 a t
    | ⟨5, _⟩ => blk1_5 a t
    | ⟨6, _⟩ => blk1_6 a t
    | ⟨7, _⟩ => blk1_7 a t
  Φ _ := Pipeline.scopedRest (Ix := HIx 2) (Name := ℕ) (U := UU) (Lvl := ℕ) (Val := Elt F) spec1 c
  q _ := fullShare
  owed _ := (K (F := F)).Otc c 1
  recorded _ := waitBound (F := F) c

theorem before1_0 (c : Dev nD) (t : Fin cfg1.N) (x : (cfg1.win 0).block.Idx → Elt F (cfg1.win 0).elt) :
    (dat1 c a).before 0 t x = blk1_0 a t :=
  ((dat1 c a).before_in_eq_fetched 0 rfl (fun _ => rfl) (fun _ _ _ => rfl) (fun _ => rfl) t x).trans rfl
theorem before1_1 (c : Dev nD) (t : Fin cfg1.N) (x : (cfg1.win 1).block.Idx → Elt F (cfg1.win 1).elt) :
    (dat1 c a).before 1 t x = blk1_1 a t :=
  ((dat1 c a).before_in_eq_fetched 1 rfl (fun _ => rfl) (fun _ _ _ => rfl) (fun _ => rfl) t x).trans rfl
theorem before1_2 (c : Dev nD) (t : Fin cfg1.N) (x : (cfg1.win 2).block.Idx → Elt F (cfg1.win 2).elt) :
    (dat1 c a).before 2 t x = blk1_2 a t :=
  ((dat1 c a).before_in_eq_fetched 2 rfl (fun _ => rfl) (fun _ _ _ => rfl) (fun _ => rfl) t x).trans rfl
theorem before1_3 (c : Dev nD) (t : Fin cfg1.N) (x : (cfg1.win 3).block.Idx → Elt F (cfg1.win 3).elt) :
    (dat1 c a).before 3 t x = blk1_3 a t :=
  ((dat1 c a).before_in_eq_fetched 3 rfl (fun _ => rfl) (fun _ _ _ => rfl) (fun _ => rfl) t x).trans rfl
theorem before1_4 (c : Dev nD) (t : Fin cfg1.N) (x : (cfg1.win 4).block.Idx → Elt F (cfg1.win 4).elt) :
    (dat1 c a).before 4 t x = blk1_4 a t :=
  ((dat1 c a).before_in_eq_fetched 4 rfl (fun _ => rfl) (fun _ _ _ => rfl) (fun _ => rfl) t x).trans rfl
theorem before1_5 (c : Dev nD) (t : Fin cfg1.N) (x : (cfg1.win 5).block.Idx → Elt F (cfg1.win 5).elt) :
    (dat1 c a).before 5 t x = blk1_5 a t :=
  ((dat1 c a).before_in_eq_fetched 5 rfl (fun _ => rfl) (fun _ _ _ => rfl) (fun _ => rfl) t x).trans rfl
theorem before1_6 (c : Dev nD) (t : Fin cfg1.N) (x : (cfg1.win 6).block.Idx → Elt F (cfg1.win 6).elt) :
    (dat1 c a).before 6 t x = blk1_6 a t :=
  ((dat1 c a).before_in_eq_fetched 6 rfl (fun _ => rfl) (fun _ _ _ => rfl) (fun _ => rfl) t x).trans rfl

set_option maxHeartbeats 1000000 in
theorem body_obligation1 (c : Dev nD) : BodyObligation (dat1 c a) (defs₀ (F := F)) Variants.none none Set.univ := fun t => by
  rw [bigSep_W1, bigSep_W1, show (dat1 c a).Φ t.succ = (dat1 c a).Φ t.castSucc from rfl,
    show (dat1 c a).owesAt none t.succ = (dat1 c a).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  unfold owns
  rw [(stage_whole1 0 (cfg1.slots t 0)).set_eq_univ, (stage_whole1 1 (cfg1.slots t 1)).set_eq_univ, (stage_whole1 2 (cfg1.slots t 2)).set_eq_univ, (stage_whole1 3 (cfg1.slots t 3)).set_eq_univ, (stage_whole1 4 (cfg1.slots t 4)).set_eq_univ, (stage_whole1 5 (cfg1.slots t 5)).set_eq_univ, (stage_whole1 6 (cfg1.slots t 6)).set_eq_univ, (stage_whole1 7 (cfg1.slots t 7)).set_eq_univ]
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, -, H7⟩
  rw [before1_0] at hf0
  rw [before1_1] at hf1
  rw [before1_2] at hf2
  rw [before1_3] at hf3
  rw [before1_4] at hf4
  rw [before1_5] at hf5
  rw [before1_6] at hf6
  iapply (compute_run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7))
    f0 f1 f2 f3 f4 f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, %W, H7, %hW⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  iexists _; isplitr; swap; (· iexact H7); ipureintro
  refine hW.trans ?_
  rw [show _ = _ from hf0, show _ = _ from hf1, show _ = _ from hf2, show _ = _ from hf3, show _ = _ from hf4, show _ = _ from hf5, show _ = _ from hf6]
  rfl

/-! ## The normalised rows' array -/

theorem idx1_0 : ∀ t : Fin cfg1.N, win1_0.index t = ![(grid1.coords t 0).val, 0] :=
  (by decide +kernel : ∀ t : Fin grid1.N, win1_0.index t = ![(grid1.coords t 0).val, 0])
theorem idx1_1 : ∀ t : Fin cfg1.N, win1_1.index t = ![(grid1.coords t 0).val, 0] :=
  (by decide +kernel : ∀ t : Fin grid1.N, win1_1.index t = ![(grid1.coords t 0).val, 0])
theorem idx1_7 : ∀ t : Fin cfg1.N, win1_7.index t = ![(grid1.coords t 0).val, 0] :=
  (by decide +kernel : ∀ t : Fin grid1.N, win1_7.index t = ![(grid1.coords t 0).val, 0])
theorem idx1_2 : ∀ t : Fin cfg1.N, win1_2.index t = ![0, 0] :=
  (by decide +kernel : ∀ t : Fin grid1.N, win1_2.index t = ![0, 0])
theorem idx1_3 : ∀ t : Fin cfg1.N, win1_3.index t = ![0, 0] :=
  (by decide +kernel : ∀ t : Fin grid1.N, win1_3.index t = ![0, 0])
theorem idx1_4 : ∀ t : Fin cfg1.N, win1_4.index t = ![0, 0] :=
  (by decide +kernel : ∀ t : Fin grid1.N, win1_4.index t = ![0, 0])
theorem idx1_5 : ∀ t : Fin cfg1.N, win1_5.index t = ![0, 0] :=
  (by decide +kernel : ∀ t : Fin grid1.N, win1_5.index t = ![0, 0])
theorem idx1_6 : ∀ t : Fin cfg1.N, win1_6.index t = ![0, 0] :=
  (by decide +kernel : ∀ t : Fin grid1.N, win1_6.index t = ![0, 0])
theorem blk1_2_eq (t : Fin cfg1.N) : blk1_2 a t = a.wm := by
  funext y
  show a.wm ((win1_2.blk t).view.emb y) = a.wm y
  congr 1
  blk_ext [idx1_2]
theorem blk1_3_eq (t : Fin cfg1.N) : blk1_3 a t = a.wl := by
  funext y
  show a.wl ((win1_3.blk t).view.emb y) = a.wl y
  congr 1
  blk_ext [idx1_3]
theorem blk1_4_eq (t : Fin cfg1.N) : blk1_4 a t = a.bias := by
  funext y
  show a.bias ((win1_4.blk t).view.emb y) = a.bias y
  congr 1
  blk_ext [idx1_4]
theorem blk1_5_eq (t : Fin cfg1.N) : blk1_5 a t = a.gam := by
  funext y
  show a.gam ((win1_5.blk t).view.emb y) = a.gam y
  congr 1
  blk_ext [idx1_5]
theorem blk1_6_eq (t : Fin cfg1.N) : blk1_6 a t = a.bet := by
  funext y
  show a.bet ((win1_6.blk t).view.emb y) = a.bet y
  congr 1
  blk_ext [idx1_6]
theorem blk1_0_eq (t : Fin cfg1.N) : blk1_0 a t = rowsAt a.msgs (grid1.coords t 0) := by
  funext y
  show a.msgs ((win1_0.blk t).view.emb y) = a.msgs _
  congr 1
  blk_ext [idx1_0]
theorem blk1_1_eq (t : Fin cfg1.N) : blk1_1 a t = rowsAt a.old (grid1.coords t 0) := by
  funext y
  show a.old ((win1_1.blk t).view.emb y) = a.old _
  congr 1
  blk_ext [idx1_1]

theorem final1 (c : Dev nD) : (dat1 c a).arrAt 7 cfg1.N = a.fin := by
  refine (dat1 c a).arrAt_eq_of_covers 7 _ (by decide +kernel) fun t hf y => ?_
  show blk1_7 a t _ = a.fin ((win1_7.blk t).view.emb y)
  have hy0 : (y 0).val < 4096 := (y 0).isLt
  have he : (win1_7.blk t).view.emb y = ixo ⟨4096 * (grid1.coords t 0).val + (y 0).val, by
      have h : (grid1.coords t 0).val < 4 := (grid1.coords t 0).isLt; omega⟩ (y 1) := by
    blk_ext [idx1_7]
  rw [he]
  unfold blk1_7 Arrs.fin normed
  rw [blk1_0_eq, blk1_1_eq, blk1_2_eq, blk1_3_eq, blk1_4_eq, blk1_5_eq, blk1_6_eq]
  have hd : (4096 * (grid1.coords t 0).val + (y 0).val) / 4096 = (grid1.coords t 0).val := by omega
  have hm : (4096 * (grid1.coords t 0).val + (y 0).val) % 4096 = (y 0).val := by omega
  have hr : ∀ x : S16384x128.Idx → Elt F .f32, ∀ h, rowsAt x ⟨(4096 * (grid1.coords t 0).val + (y 0).val) / 4096, h⟩
      = rowsAt x (grid1.coords t 0) := fun x h => congrArg (rowsAt x) (Fin.ext hd)
  show _ = normBlk (rowsAt a.msgs ⟨(4096 * (grid1.coords t 0).val + (y 0).val) / 4096, _⟩)
    (rowsAt a.old ⟨(4096 * (grid1.coords t 0).val + (y 0).val) / 4096, _⟩) a.wm a.wl a.bias a.gam a.bet
    (ixb ⟨(4096 * (grid1.coords t 0).val + (y 0).val) % 4096, _⟩ (y 1))
  rw [hr, hr]
  congr 1
  funext k
  apply Fin.ext
  match k with
  | ⟨0, _⟩ => exact hm.symm
  | ⟨1, _⟩ => rfl

/-! ## The region -/

def pdats1 (a : Arrs F) :
    (p : Fin 2) → (c : Dev nD) → Dat τ (Elt F) (HIx 2) ℕ UU ℕ (Pipeline.pin (pcfgs (F := F)) adm p) c
  | ⟨0, _⟩ => fun c => dat1 c a
  | ⟨1, _⟩ => fun c => junkDat c

theorem arrays1 (c : Dev nD) (G : (w : Fin 8) → Buf (Elt F) ((spec1 w).arr.view.loc (c : Thread nD τ))) :
    ((pdats1 a 0 c).arrays G : sProp 𝕄) = iprop((msgLoc c ↦{fullShare} G 0) ∗ (oldLoc c ↦{fullShare} G 1) ∗ (wmLoc c ↦{fullShare} G 2) ∗ (wlLoc c ↦{fullShare} G 3) ∗ (biasLoc c ↦{fullShare} G 4) ∗ (gamLoc c ↦{fullShare} G 5) ∗ (betLoc c ↦{fullShare} G 6) ∗ (nrmLoc c ↦{fullShare} G 7)) := by
  rw [Pipeline.arrays_eq (Pipeline.pin (pcfgs (F := F)) adm) (pdats1 a) (p := 0) c launch1.arr_whole
    ((pdats1 a 0 c).share_full fun _ => rfl) G]
  exact bigSep_W1 _

theorem keep1 (c : Dev nD) (w : Fin 8) (h : (cfg1.win w).isOut = false) : (dat1 c a).arrAt w cfg1.N = (dat1 c a).A w :=
  (dat1 c a).arrAt_in w h _

set_option maxHeartbeats 1000000 in
set_option backward.isDefEq.respectTransparency.types false in
def reg1 (a : Arrs F) :
    Pipeline.RegionSeg (pcfgs (F := F)) adm (pdats1 a) none defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation1 a c).loose
  hwaits c := Pipeline.cellsWaits_of_cut (Pipeline.pin (pcfgs (F := F)) adm) (pdats1 a) none 0 c 0 ((K (F := F)).Otc c 1) (fun _ => rfl)
    (fun _ _ => Finset.mem_univ _) (fun _ _ => le_refl _) (owing_cut c)
  pre c := iprop(((msgLoc c ↦{fullShare} a.msgs) ∗ (oldLoc c ↦{fullShare} a.old) ∗ (wmLoc c ↦{fullShare} a.wm) ∗ (wlLoc c ↦{fullShare} a.wl) ∗ (biasLoc c ↦{fullShare} a.bias) ∗ (gamLoc c ↦{fullShare} a.gam) ∗ (betLoc c ↦{fullShare} a.bet) ∗ (nrmLoc c ↦{fullShare} a.out)) ∗ owing (F := F) c)
  post c := iprop(((msgLoc c ↦{fullShare} a.msgs) ∗ (oldLoc c ↦{fullShare} a.old) ∗ (wmLoc c ↦{fullShare} a.wm) ∗ (wlLoc c ↦{fullShare} a.wl) ∗ (biasLoc c ↦{fullShare} a.bias) ∗ (gamLoc c ↦{fullShare} a.gam) ∗ (betLoc c ↦{fullShare} a.bet) ∗ (nrmLoc c ↦{fullShare} a.fin)) ∗ owing (F := F) c)
  X _ := BI.emp
  Y _ := BI.emp
  Z _ := BI.emp
  hentry c := by
    rw [Pipeline.ownSems0_none, arrays1]
    iintro ⟨⟨HA, HO⟩, -, -⟩
    imodintro
    isplitl [HA]; · iexact HA
    isplitr; · unfold Pipeline.prefHeld; rw [show (Finset.univ : Finset (Fin 0)) = ∅ from rfl, BI.bigSep_empty]; iempintro
    isplitl [HO]; · iapply (within_of_owing c (pdats1 a 0 c) 0 rfl rfl); iexact HO
    isplitr <;> iempintro
  hin c := by
    rw [show (pdats1 a 0 c).Φ 0 = Pipeline.scopedRest spec1 c from rfl]
    iintro ⟨-, -, Hr⟩; iexact Hr
  hout c := by
    rw [Pipeline.ownSems0_none, show (pdats1 a 0 c).Φ (Fin.last _) = Pipeline.scopedRest spec1 c from rfl]
    iintro Hr
    isplitr; · iempintro
    isplitr; · iempintro
    iexact Hr
  hexit c := by
    rw [arrays1, show (pdats1 a 0 c).arrAt 0 (Pipeline.pin (pcfgs (F := F)) adm 0).N = a.msgs from keep1 a c 0 rfl,
      show (pdats1 a 0 c).arrAt 1 (Pipeline.pin (pcfgs (F := F)) adm 0).N = a.old from keep1 a c 1 rfl,
      show (pdats1 a 0 c).arrAt 2 (Pipeline.pin (pcfgs (F := F)) adm 0).N = a.wm from keep1 a c 2 rfl,
      show (pdats1 a 0 c).arrAt 3 (Pipeline.pin (pcfgs (F := F)) adm 0).N = a.wl from keep1 a c 3 rfl,
      show (pdats1 a 0 c).arrAt 4 (Pipeline.pin (pcfgs (F := F)) adm 0).N = a.bias from keep1 a c 4 rfl,
      show (pdats1 a 0 c).arrAt 5 (Pipeline.pin (pcfgs (F := F)) adm 0).N = a.gam from keep1 a c 5 rfl,
      show (pdats1 a 0 c).arrAt 6 (Pipeline.pin (pcfgs (F := F)) adm 0).N = a.bet from keep1 a c 6 rfl,
      show (pdats1 a 0 c).arrAt 7 (Pipeline.pin (pcfgs (F := F)) adm 0).N = a.fin from final1 a c]
    iintro ⟨HA, HO, -, -⟩
    imodintro
    isplitl [HA]; · iexact HA
    iapply (owing_of_within c (pdats1 a 0 c) _ rfl rfl); iexact HO

/-- The arithmetic's region: the normalised rows' array ends at `normed` of the others. -/
theorem compute_region (c : Dev nD) (a : Arrs F) :
    iprop(boundary (SparseCore.T c) ∗ ((msgLoc c ↦{fullShare} a.msgs) ∗ (oldLoc c ↦{fullShare} a.old) ∗ (wmLoc c ↦{fullShare} a.wm) ∗ (wlLoc c ↦{fullShare} a.wl) ∗ (biasLoc c ↦{fullShare} a.bias) ∗ (gamLoc c ↦{fullShare} a.gam) ∗ (betLoc c ↦{fullShare} a.bet) ∗ (nrmLoc c ↦{fullShare} a.out)) ∗ owing (F := F) c
        ∗ levAts (K (F := F)).L (K (F := F)).lev ∗ dealt (F := F) 0 c)
      ⊢ wp frame (wpE (D (F := F)) 𝒱 (SparseCore.T c) none) Set.univ (Prog.lift (.customCall (Pipeline.entry (0 : Fin 2)) ()))
          fun _ : PUnit.{1} => iprop(boundary (SparseCore.T c) ∗ ((msgLoc c ↦{fullShare} a.msgs) ∗ (oldLoc c ↦{fullShare} a.old) ∗ (wmLoc c ↦{fullShare} a.wm) ∗ (wlLoc c ↦{fullShare} a.wl) ∗ (biasLoc c ↦{fullShare} a.bias) ∗ (gamLoc c ↦{fullShare} a.gam) ∗ (betLoc c ↦{fullShare} a.bet) ∗ (nrmLoc c ↦{fullShare} a.fin)) ∗ owing (F := F) c) := by
  have e : iprop((iprop(boundary (SparseCore.T c) ∗ ((msgLoc c ↦{fullShare} a.msgs) ∗ (oldLoc c ↦{fullShare} a.old) ∗ (wmLoc c ↦{fullShare} a.wm) ∗ (wlLoc c ↦{fullShare} a.wl) ∗ (biasLoc c ↦{fullShare} a.bias) ∗ (gamLoc c ↦{fullShare} a.gam) ∗ (betLoc c ↦{fullShare} a.bet) ∗ (nrmLoc c ↦{fullShare} a.fin)) ∗ owing (F := F) c)
          -∗ wp frame (wpE (D (F := F)) 𝒱 (SparseCore.T c) none) Set.univ (Prog.ret PUnit.unit)
              fun _ : PUnit.{1} => iprop(boundary (SparseCore.T c) ∗ ((msgLoc c ↦{fullShare} a.msgs) ∗ (oldLoc c ↦{fullShare} a.old) ∗ (wmLoc c ↦{fullShare} a.wm) ∗ (wlLoc c ↦{fullShare} a.wl) ∗ (biasLoc c ↦{fullShare} a.bias) ∗ (gamLoc c ↦{fullShare} a.gam) ∗ (betLoc c ↦{fullShare} a.bet) ∗ (nrmLoc c ↦{fullShare} a.fin)) ∗ owing (F := F) c))
        ∗ boundary (SparseCore.T c) ∗ iprop(((msgLoc c ↦{fullShare} a.msgs) ∗ (oldLoc c ↦{fullShare} a.old) ∗ (wmLoc c ↦{fullShare} a.wm) ∗ (wlLoc c ↦{fullShare} a.wl) ∗ (biasLoc c ↦{fullShare} a.bias) ∗ (gamLoc c ↦{fullShare} a.gam) ∗ (betLoc c ↦{fullShare} a.bet) ∗ (nrmLoc c ↦{fullShare} a.out)) ∗ owing (F := F) c)
        ∗ levAts (K (F := F)).L (K (F := F)).lev ∗ dealt (F := F) 0 c)
      ⊢ wp frame (wpE (D (F := F)) 𝒱 (SparseCore.T c) none) Set.univ (Prog.lift (.customCall (Pipeline.entry (0 : Fin 2)) ()))
          fun _ : PUnit.{1} => iprop(boundary (SparseCore.T c) ∗ ((msgLoc c ↦{fullShare} a.msgs) ∗ (oldLoc c ↦{fullShare} a.old) ∗ (wmLoc c ↦{fullShare} a.wm) ∗ (wlLoc c ↦{fullShare} a.wl) ∗ (biasLoc c ↦{fullShare} a.bias) ∗ (gamLoc c ↦{fullShare} a.gam) ∗ (betLoc c ↦{fullShare} a.bet) ∗ (nrmLoc c ↦{fullShare} a.fin)) ∗ owing (F := F) c) :=
    Pipeline.RegionSeg.wp (pcfgs (F := F)) adm (pdats1 a) none phinj EP defs₀ Variants.none
      (K (F := F)).L (K (F := F)).lev (reg1 a) c none (fun u h => nomatch h) Prog.ret _
  iintro ⟨Hb, HA, HO, HL, HG⟩
  iapply e
  isplitr
  · iintro H
    rw [wp_ret]
    imodintro
    iexact H
  isplitl [Hb]; · iexact Hb
  isplitl [HA HO]
  · isplitl [HA]; · iexact HA
    iexact HO
  isplitl [HL]; · iexact HL
  iexact HG

end Cert.Proof

end
-- ==== Proof.Deal.lean ====
/- What the TensorCore deals to the 32 tiles around the two SparseCore calls, as one product over the tiles: read shares
   of an array, the gathered rows' pieces, the winners' table (one tile's), and the rights to the row writes. -/
module

public import proofs.«01_k».proof.Proof.ComputeRegion

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.ExclCount

variable {F : FTy → Type} [FloatOps F]

local notation "𝕄" => MT nD τ sig (HIx 2) (Elt F) ℕ UU ℕ

variable (m : (ℓ : Loc nD τ sig) → Buf (Elt F) ℓ) (N : Dev nD → S16384x128.Idx → Elt F .f32) (d : Dev nD)

/-- A resource per tile. -/
def tiles (Φ : grid0.Coords → sProp (MT nD τ sig (HIx 2) (Elt F) ℕ UU ℕ)) : sProp (MT nD τ sig (HIx 2) (Elt F) ℕ UU ℕ) :=
  bigSep Finset.univ fun c : Fin 2 => bigSep Finset.univ fun i : Fin 16 => Φ (coordsV c i)

theorem tiles_sep (Φ Ψ : grid0.Coords → sProp 𝕄) : tiles (fun L => iprop(Φ L ∗ Ψ L)) = (iprop(tiles Φ ∗ tiles Ψ) : sProp 𝕄) := by
  unfold tiles
  simp only [bigSep_sep']

theorem tiles_mono {Φ Ψ : grid0.Coords → sProp 𝕄} (h : ∀ L, Φ L ⊢ Ψ L) : iprop(tiles Φ) ⊢ iprop(tiles Ψ) :=
  BI.bigSep_mono fun _ _ => BI.bigSep_mono fun _ _ => h _

theorem tiles_prod (Φ : grid0.Coords → sProp 𝕄) :
    tiles Φ = bigSep Finset.univ fun p : Fin 2 × Fin 16 => Φ (coordsV p.1 p.2) :=
  (bigSep_univ_prod fun p : Fin 2 × Fin 16 => Φ (coordsV p.1 p.2)).symm

/-- Every tile's number. -/
def tileNum : Fin 2 × Fin 16 ≃ Fin 32 := (Equiv.prodComm (Fin 2) (Fin 16)).trans finProdFinEquiv

theorem tileNum_val (p : Fin 2 × Fin 16) : (tileNum p).val = shN (coordsV p.1 p.2) := by
  show p.1.val + 2 * p.2.val = 2 * p.2.val + p.1.val
  omega

/-- An array held whole is a remainder and a read share per tile. -/
theorem tiles_shares (ℓ : Loc nD τ sig) (f : Buf (Elt F) ℓ) :
    (ℓ ↦{fullShare} f : sProp 𝕄)
      ⊣⊢ iprop((ℓ ↦{Transfers.shareDrop fullShare 32} f) ∗ tiles fun L => ℓ ↦{tileSh L} f) := by
  have h := Transfers.pointsTo_toks (U := UU) (Name := ℕ) (Ix := HIx 2) (Lvl := ℕ) (S := Finset.univ) (f := f) fullShare 32
  rw [bigSep_univ_equiv tileNum] at h
  rw [tiles_prod]
  have e : (bigSep Finset.univ fun p : Fin 2 × Fin 16 => (ℓ ↦[Finset.univ]{Transfers.shareTok fullShare 32 (tileNum p)} f : sProp 𝕄))
      = bigSep Finset.univ fun p : Fin 2 × Fin 16 => (ℓ ↦{tileSh (coordsV p.1 p.2)} f : sProp 𝕄) :=
    BI.bigSep_congr fun p _ => by
      show (ℓ ↦[Finset.univ]{Transfers.shareTokN fullShare (tileNum p).val} f : sProp 𝕄) = _
      rw [tileNum_val]
  rw [e] at h
  exact h

/-! ## The gathered rows' pieces -/

theorem mem_oldSet (p : Fin 2 × Fin 16) (x : S16384x128.Idx) :
    x ∈ oldSet (coordsV p.1 p.2) ↔ 1024 * p.2.val + 512 * p.1.val ≤ (x 0).val ∧ (x 0).val < 1024 * p.2.val + 512 * p.1.val + 512 := by
  have e : oldSet (coordsV p.1 p.2) = (oldK (coordsV p.1 p.2)).set := by
    show ((View.whole (main_v3_0_scv : Ref sig .scVector)).slice _).set = _
    rw [View.set_slice]; exact Finset.map_refl
  have h1 : (x 1).val < 128 := (x 1).isLt
  rw [e, Rect.mem_set_unit]
  constructor
  · intro h
    have h0 := h 0
    rw [k0_off2_eq] at h0
    exact h0
  · intro h a
    rw [k0_off2_eq]
    fin_cases a
    · exact h
    · exact ⟨Nat.zero_le _, by show (x 1).val < 0 + 128; omega⟩

theorem old_disjoint : ∀ p ∈ (Finset.univ : Finset (Fin 2 × Fin 16)), ∀ p' ∈ (Finset.univ : Finset (Fin 2 × Fin 16)), p ≠ p' →
    Disjoint (oldSet (coordsV p.1 p.2)) (oldSet (coordsV p'.1 p'.2)) := by
  intro p _ p' _ hne
  rw [Finset.disjoint_left]
  intro x hx hx'
  rw [mem_oldSet] at hx hx'
  have := p.1.isLt; have := p'.1.isLt
  exact hne (Prod.ext (Fin.ext (by omega)) (Fin.ext (by omega)))

theorem old_cover : (Finset.univ : Finset (Fin 2 × Fin 16)).biUnion (fun p => oldSet (coordsV p.1 p.2)) = Finset.univ := by
  refine Finset.eq_univ_of_forall fun x => Finset.mem_biUnion.mpr ?_
  have h0 : (x 0).val < 16384 := (x 0).isLt
  refine ⟨(⟨(x 0).val / 512 % 2, by omega⟩, ⟨(x 0).val / 1024, by omega⟩), Finset.mem_univ _, ?_⟩
  rw [mem_oldSet]
  constructor
  · show 1024 * ((x 0).val / 1024) + 512 * ((x 0).val / 512 % 2) ≤ (x 0).val; omega
  · show (x 0).val < 1024 * ((x 0).val / 1024) + 512 * ((x 0).val / 512 % 2) + 512; omega

theorem tiles_old (f : Buf (Elt F) (oldLoc d)) :
    (oldLoc d ↦{fullShare} f : sProp 𝕄) = tiles fun L => oldLoc d ↦[oldSet L]{fullShare} f := by
  rw [tiles_prod, ← pointsTo_biUnion Finset.univ (ℓ := oldLoc d) (fun p : Fin 2 × Fin 16 => oldSet (coordsV p.1 p.2)) old_disjoint, old_cover]

/-! ## The winners' table -/

theorem cond1_iff : ∀ p : Fin 2 × Fin 16, k0_cond1 (coordsV p.1 p.2) = 1#1 ↔ p = (0, 0) := by decide +kernel

theorem tiles_one (X : sProp 𝕄) : tiles (fun L => if k0_cond1 L = 1#1 then X else iprop(emp)) = X := by
  rw [tiles_prod, SparseCore.bigSep_erase' (Finset.mem_univ ((0, 0) : Fin 2 × Fin 16)), if_pos ((cond1_iff (0, 0)).mpr rfl)]
  rw [show (bigSep (Finset.univ.erase ((0, 0) : Fin 2 × Fin 16)) fun p => if k0_cond1 (coordsV p.1 p.2) = 1#1 then X else iprop(emp))
      = bigSep (Finset.univ.erase ((0, 0) : Fin 2 × Fin 16)) fun _ => (BI.emp : sProp 𝕄) from
    BI.bigSep_congr fun p hp => if_neg fun h => (Finset.ne_of_mem_erase hp) ((cond1_iff p).mp h), bigSep_emp_const]
  exact BI.equiv_iff.mp ⟨sep_emp.1, sep_emp.2⟩

/-! ## The rights to the row writes -/

theorem tiles_wr (s : Finset RowIdx) :
    tiles (fun L => bigSep Finset.univ fun j => bigSep Finset.univ fun k => wr (posAt L j k) s) = (bigSep Finset.univ fun b : Pos => wr b s : sProp 𝕄) := by
  rw [bigSep_univ_prod]
  refine BI.bigSep_congr fun c _ => ?_
  rw [bigSep_univ_prod]
  refine BI.bigSep_congr fun i _ => ?_
  rw [bigSep_univ_prod]
  rfl

/-! ## What the calls take and bring back -/

theorem tiles_of {a b : ℕ} (ha : a = 2) (hb : b = 16) (Φ : grid0.Coords → sProp 𝕄) :
    (bigSep Finset.univ fun c : Fin a => bigSep Finset.univ fun i : Fin b => Φ (coordsV (Fin.cast ha c) (Fin.cast hb i))) = tiles Φ := by
  subst ha; subst hb; rfl

theorem st_eq (q : Fin 2) : (bigSep Finset.univ fun c : Fin ((K (F := F)).nCore q) => (P m N).st q d c) = tiles (goQ m N q d) :=
  tiles_of (nCore_eq (F := F) q) (nSub_eq (F := F) q) (goQ m N q d)
theorem dn_eq (q : Fin 2) : (bigSep Finset.univ fun c : Fin ((K (F := F)).nCore q) => (P m N).dn q d c) = tiles (tdQ m q d) :=
  tiles_of (nCore_eq (F := F) q) (nSub_eq (F := F) q) (tdQ m q d)

/-- The first call's arrays, dealt out; the remainders of the two arrays the tiles only read stay behind. -/
theorem deal0 (f : Buf (Elt F) (oldLoc d)) (w : Buf (Elt F) (wtLoc d)) :
    iprop((tabLoc d ↦{fullShare} m (tabLoc d)) ∗ (idsLoc d ↦{fullShare} m (idsLoc d)) ∗ (oldLoc d ↦{fullShare} f) ∗ (wtLoc d ↦{fullShare} w))
      ⊢ iprop(tiles (go0 m d) ∗ (tabLoc d ↦{Transfers.shareDrop fullShare 32} m (tabLoc d)) ∗ (idsLoc d ↦{Transfers.shareDrop fullShare 32} m (idsLoc d))) := by
  have e : (tiles (go0 m d) : sProp 𝕄) = iprop((tiles fun L => tabLoc d ↦{tileSh L} m (tabLoc d)) ∗ (tiles fun L => idsLoc d ↦{tileSh L} m (idsLoc d))
      ∗ (tiles fun L => iprop(∃ f, oldLoc d ↦[oldSet L]{fullShare} f)) ∗ (∃ f, wtLoc d ↦{fullShare} f)) := by
    rw [← tiles_one (F := F) iprop(∃ f, wtLoc d ↦{fullShare} f), ← tiles_sep, ← tiles_sep, ← tiles_sep]; rfl
  rw [e]
  iintro ⟨Ht, Hi, Ho, Hw⟩
  ihave Ht := (tiles_shares (tabLoc d) (m (tabLoc d))).1 $$ Ht
  icases Ht with ⟨Ht', Ht⟩
  ihave Hi := (tiles_shares (idsLoc d) (m (idsLoc d))).1 $$ Hi
  icases Hi with ⟨Hi', Hi⟩
  isplitr [Ht' Hi']
  · isplitl [Ht]; · iexact Ht
    isplitl [Hi]; · iexact Hi
    isplitl [Ho]
    · have eo : (oldLoc d ↦{fullShare} f : sProp 𝕄) ⊢ tiles fun L => iprop(∃ f, oldLoc d ↦[oldSet L]{fullShare} f) := by
        rw [tiles_old]
        refine tiles_mono fun L => ?_
        iintro H; iexists f; iexact H
      iapply eo; iexact Ho
    iexists w; iexact Hw
  isplitl [Ht']; · iexact Ht'
  iexact Hi'

/-- What the first call brings back, joined. -/
theorem join0 :
    iprop(tiles (td0 m d) ∗ (tabLoc d ↦{Transfers.shareDrop fullShare 32} m (tabLoc d)) ∗ (idsLoc d ↦{Transfers.shareDrop fullShare 32} m (idsLoc d)))
      ⊢ iprop((tabLoc d ↦{fullShare} m (tabLoc d)) ∗ (idsLoc d ↦{fullShare} m (idsLoc d))
        ∗ (oldLoc d ↦{fullShare} gath (m (tabLoc d)) (m (idsLoc d)))
        ∗ ∃ w : Buf (Elt F) (wtLoc d), (wtLoc d ↦{fullShare} w) ∗ ⌜Winner.Upto (idN (m (idsLoc d))) 16384 w⌝) := by
  have e : (tiles (td0 m d) : sProp 𝕄) = iprop((tiles fun L => tabLoc d ↦{tileSh L} m (tabLoc d)) ∗ (tiles fun L => idsLoc d ↦{tileSh L} m (idsLoc d))
      ∗ (tiles fun L => iprop(oldLoc d ↦[oldSet L]{fullShare} gath (m (tabLoc d)) (m (idsLoc d))))
      ∗ (∃ f : Buf (Elt F) (wtLoc d), (wtLoc d ↦{fullShare} f) ∗ ⌜Winner.Upto (idN (m (idsLoc d))) 16384 f⌝)) := by
    rw [← tiles_one (F := F) iprop(∃ f : Buf (Elt F) (wtLoc d), (wtLoc d ↦{fullShare} f) ∗ ⌜Winner.Upto (idN (m (idsLoc d))) 16384 f⌝),
      ← tiles_sep, ← tiles_sep, ← tiles_sep]; rfl
  rw [e]
  iintro ⟨⟨Ht, Hi, Ho, Hw⟩, Ht', Hi'⟩
  isplitl [Ht Ht']; · iapply (tiles_shares (tabLoc d) (m (tabLoc d))).2; isplitl [Ht']; · iexact Ht'
                      iexact Ht
  isplitl [Hi Hi']; · iapply (tiles_shares (idsLoc d) (m (idsLoc d))).2; isplitl [Hi']; · iexact Hi'
                      iexact Hi
  isplitl [Ho]; · rw [tiles_old]; iexact Ho
  iexact Hw

/-- The second call's arrays and rights, dealt out; the index list's remainder stays behind. -/
theorem deal1 (w : Buf (Elt F) (wtLoc d)) (hw : Winner.Upto (idN (m (idsLoc d))) 16384 w) :
    iprop((idsLoc d ↦{fullShare} m (idsLoc d)) ∗ (wtLoc d ↦{fullShare} w) ∗ (nrmLoc d ↦{fullShare} N d) ∗ (bigSep Finset.univ fun b : Pos => wr b ∅))
      ⊢ iprop(tiles (go1 m N d) ∗ (idsLoc d ↦{Transfers.shareDrop fullShare 32} m (idsLoc d))) := by
  have e : (tiles (go1 m N d) : sProp 𝕄) = iprop((tiles fun L => idsLoc d ↦{tileSh L} m (idsLoc d))
      ∗ (tiles fun L => iprop(∃ f : Buf (Elt F) (wtLoc d), (wtLoc d ↦{tileSh L} f) ∗ ⌜Winner.Upto (idN (m (idsLoc d))) 16384 f⌝))
      ∗ (tiles fun L => iprop(nrmLoc d ↦{tileSh L} N d))
      ∗ (bigSep Finset.univ fun b : Pos => wr b ∅)) := by
    rw [← tiles_wr, ← tiles_sep, ← tiles_sep, ← tiles_sep]; rfl
  rw [e]
  iintro ⟨Hi, Hw, Hn, Hr⟩
  ihave Hi := (tiles_shares (idsLoc d) (m (idsLoc d))).1 $$ Hi
  icases Hi with ⟨Hi', Hi⟩
  ihave Hw := (tiles_shares (wtLoc d) w).1 $$ Hw
  icases Hw with ⟨-, Hw⟩
  ihave Hn := (tiles_shares (nrmLoc d) (N d)).1 $$ Hn
  icases Hn with ⟨-, Hn⟩
  isplitr [Hi']
  · isplitl [Hi]; · iexact Hi
    isplitl [Hw]
    · have ew : tiles (fun L => (wtLoc d ↦{tileSh L} w : sProp 𝕄))
          ⊢ tiles fun L => iprop(∃ f : Buf (Elt F) (wtLoc d), (wtLoc d ↦{tileSh L} f) ∗ ⌜Winner.Upto (idN (m (idsLoc d))) 16384 f⌝) := by
        refine tiles_mono fun L => ?_
        iintro H; iexists w; isplitl [H]; · iexact H
        ipureintro; exact hw
      iapply ew; iexact Hw
    isplitl [Hn]; · iexact Hn
    iexact Hr
  iexact Hi'

theorem join1 : tiles (td1 (F := F) d) = (bigSep Finset.univ fun b : Pos => wr b Finset.univ : sProp 𝕄) := tiles_wr _

end Cert.Proof

end
-- ==== Proof.Race.lean ====
/- The racing row writes' start and end: the records are dealt at the launch, the TensorCore puts the output in before the
   second call and takes it back, complete, after it. -/
module

public import proofs.«01_k».proof.Proof.Deal

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.ExclCount
open PCS URA Auth

variable {F : FTy → Type} [FloatOps F]

local notation "𝕄" => MT nD τ sig (HIx 2) (Elt F) ℕ UU ℕ

/-! ## The records at the launch -/

abbrev rec0 : Auth (Option (Excl ℕ)) := authFrag (exclOf (enc ∅)) (exclOf (enc ∅)) (PCS.le_refl _)

def posName : Pos ↪ ℕ := ⟨fun b => (pos b).val, fun a b h => pos_injective (Fin.ext h)⟩

/-- Every position's record, at nothing written. -/
def recs : Counters := ISumOpt.restrict (A := fun _ => Auth (Option (Excl ℕ))) (Finset.univ.map posName) fun _ => rec0

theorem rec_split (γ : ℕ) :
    (BI.own (EM (ISumOpt.single (A := fun _ => Auth (Option (Excl ℕ))) γ (some rec0))) : sProp 𝕄)
      ⊢ iprop(countAuth EM γ (enc ∅) ∗ count EM γ (enc ∅)) := by
  refine BI.own_op_elim (EM.toEmb.op_of_eq_some ?_)
  rw [ISumOpt.single_op_single, Opt.op_some_some, op_auth_frag_of_le (PCS.le_refl _)]; rfl

theorem recs_restrict (s : Finset ℕ) :
    (BI.own (EM (ISumOpt.restrict (A := fun _ => Auth (Option (Excl ℕ))) s fun _ => rec0)) : sProp 𝕄)
      ⊢ bigSep s fun γ => iprop(countAuth EM γ (enc ∅) ∗ count EM γ (enc ∅)) := by
  induction s using Finset.induction_on with
  | empty => rw [BI.bigSep_empty]; iintro -; iempintro
  | insert γ s hγ ih =>
    rw [SparseCore.bigSep_insert' hγ]
    have e : (fun _ : ℕ => rec0) = Function.update (fun _ => rec0) γ rec0 := by
      funext i; by_cases h : i = γ
      · subst h; rw [Function.update_self]
      · rw [Function.update_of_ne h]
    have h := ISumOpt.single_op_restrict (A := fun _ => Auth (Option (Excl ℕ))) (s := s) (fun _ => rec0) rec0 hγ
    rw [← e] at h
    have h2 : (BI.own (EM (ISumOpt.restrict (A := fun _ => Auth (Option (Excl ℕ))) (insert γ s) fun _ => rec0)) : sProp 𝕄)
        ⊢ iprop(BI.own (EM (ISumOpt.single (A := fun _ => Auth (Option (Excl ℕ))) γ (some rec0)))
          ∗ BI.own (EM (ISumOpt.restrict (A := fun _ => Auth (Option (Excl ℕ))) s fun _ => rec0))) :=
      BI.own_op_elim (EM.toEmb.op_of_eq_some h)
    iintro H
    ihave H := h2 $$ H
    icases H with ⟨H1, H2⟩
    isplitl [H1]
    · iapply (rec_split γ); iexact H1
    · iapply ih; iexact H2

theorem recs_deal : (BI.own (EM recs) : sProp 𝕄) ⊢ bigSep Finset.univ fun b : Pos => iprop(wrAuth b ∅ ∗ wr b ∅) := by
  have h := recs_restrict (F := F) (Finset.univ.map posName)
  rw [BI.bigSep_map] at h
  exact h

/-! ## Entering and leaving the race -/

variable (d : Dev nD) (ids : S16384.Idx → BitVec 32) (G : S100000x128.Idx → Elt F .f32)

theorem all_idle_split : (bigSep Finset.univ fun b : Pos => iprop(wrAuth b ∅ ∗ wr b ∅) : sProp 𝕄)
    = iprop((bigSep Finset.univ fun b : Pos => wrAuth b ∅) ∗ bigSep Finset.univ fun b : Pos => wr b ∅) := bigSep_sep' ..

/-- Before the second call: the output, equal to the final values wherever no position names the row, goes in; the rights
    come out. -/
theorem race_enter {ι : ℕ} (f : Buf (Elt F) (outLoc d)) (hf : ∀ x, (∀ b : Pos, idN ids (pos b).val ≠ (x 0).val) → f x = G x) :
    iprop(inv ι (raceBody d ids G) ∗ (outLoc d ↦{fullShare} f)) ⊢ (iprop(|={Set.univ}=> bigSep Finset.univ fun b : Pos => wr b ∅) : sProp 𝕄) := by
  iintro ⟨#Hinv, Hout⟩
  imod (inv_acc (Set.mem_univ ι)) $$ Hinv with ⟨Hbody, Hclose⟩
  unfold raceBody
  icases Hbody with (⟨%g, %done, Hout', -, -⟩ | Hidle)
  · iexfalso
    have i : Idx (outLoc d) := ix2 ⟨0, by decide⟩ ⟨0, by decide⟩
    ihave H := (pointsTo_full_full_false (ℓ := outLoc d) (I := Finset.univ) (J := Finset.univ) (f := f) (g := g) (Finset.mem_univ i) (Finset.mem_univ i)) $$ [Hout Hout']
    · isplitl [Hout] <;> iassumption
    icases H with ⟨%H⟩
    exact H.elim
  · ihave Hidle := (Entails.of_eq all_idle_split) $$ Hidle
    icases Hidle with ⟨Ha, Hr⟩
    ihave Hc := Hclose $$ [Hout Ha]
    · ileft
      iexists f, fun _ => ∅
      isplitl [Hout]; · iexact Hout
      isplitl [Ha]; · iexact Ha
      ipureintro
      exact ⟨fun b y hy => absurd hy (Finset.notMem_empty y), hf⟩
    imod Hc
    imodintro
    iexact Hr

theorem done_all (done : Pos → Finset RowIdx) :
    iprop((bigSep Finset.univ fun b => wrAuth b (done b)) ∗ bigSep Finset.univ fun b : Pos => wr b Finset.univ)
      ⊢ (⌜∀ b, done b = Finset.univ⌝ : sProp 𝕄) := by
  by_cases hd : ∀ b, done b = Finset.univ
  · exact BI.pure_intro hd
  obtain ⟨b, hb⟩ := not_forall.mp hd
  have e : iprop((bigSep Finset.univ fun b => wrAuth b (done b)) ∗ bigSep Finset.univ fun b : Pos => wr b Finset.univ)
      ⊢ (⌜done b = Finset.univ⌝ : sProp 𝕄) := by
    rw [SparseCore.bigSep_erase' (Finset.mem_univ b), SparseCore.bigSep_erase' (Φ := fun b : Pos => wr b Finset.univ) (Finset.mem_univ b)]
    iintro ⟨⟨Ha, -⟩, ⟨Hr, -⟩⟩
    unfold wr wrAuth
    ihave %he := (countAuth_count_agree EM (γ := (pos b).val) (m := enc (done b)) (n := enc Finset.univ)) $$ [Ha Hr]
    · isplitl [Ha] <;> iassumption
    ipureintro
    exact (enc_injective he).symm
  exact e.trans (BI.pure_mono fun h => absurd h hb)

/-- A complete output is the final one. -/
theorem Good.eq {f : S100000x128.Idx → Elt F .f32} {done : Pos → Finset RowIdx} (h : Good ids G f done) (hd : ∀ b, done b = Finset.univ) : f = G := by
  funext x
  by_cases hx : ∃ b : Pos, idN ids (pos b).val = (x 0).val
  · obtain ⟨b, hb⟩ := hx
    have hlt : idN ids (pos b).val < 100000 := by rw [hb]; exact (x 0).isLt
    let y : RowIdx := fun k => match k with | ⟨0, _⟩ => (0 : Fin 1) | ⟨1, _⟩ => x 1
    have h1 := h.1 b y (by rw [hd]; exact Finset.mem_univ _) hlt
    have e : rowAt _ hlt y = x := by
      funext k
      match k with
      | ⟨0, _⟩ => exact Fin.ext hb
      | ⟨1, _⟩ => rfl
    rw [e] at h1; exact h1
  · exact h.2 x fun b hb => hx ⟨b, hb⟩

set_option maxRecDepth 65536 in
/-- After the second call: the rights, complete, buy the output back at its final values. -/
theorem race_leave {ι : ℕ} :
    iprop(inv ι (raceBody d ids G) ∗ bigSep Finset.univ fun b : Pos => wr b Finset.univ)
      ⊢ (iprop(|={Set.univ}=> (outLoc d ↦{fullShare} (G : Buf (Elt F) (outLoc d)))) : sProp 𝕄) := by
  iintro ⟨#Hinv, Hr⟩
  imod (inv_acc (Set.mem_univ ι)) $$ Hinv with ⟨Hbody, Hclose⟩
  unfold raceBody
  icases Hbody with (⟨%f, %done, Hout, Ha, %hg⟩ | Hidle)
  · ihave H := (persistent_entails_right (done_all done)) $$ [Ha Hr]
    · isplitl [Ha] <;> iassumption
    icases H with ⟨%hd, Ha, Hr⟩
    have hf := hg.eq ids G hd
    subst hf
    imod (show iprop((bigSep Finset.univ fun b => wrAuth b (done b)) ∗ bigSep Finset.univ fun b : Pos => wr b Finset.univ)
        ⊢ (iprop(|==> bigSep Finset.univ fun b : Pos => iprop(wrAuth b ∅ ∗ wr b ∅)) : sProp 𝕄) by
      rw [← bigSep_sep']
      refine (BI.bigSep_mono fun b _ => ?_).trans (BI.bigSep_bupd _ _)
      rw [hd b]
      exact countAuth_count_update EM (enc ∅)) $$ [Ha Hr] with Hidle
    · isplitl [Ha] <;> iassumption
    ihave Hc := Hclose $$ [Hidle]
    · iright; iexact Hidle
    imod Hc
    imodintro
    iexact Hout
  · iexfalso
    have b : Pos := (0, 0, 0, 0)
    ihave Hidle := (Entails.of_eq all_idle_split) $$ Hidle
    icases Hidle with ⟨-, Hidle⟩
    ihave H1 := (Entails.of_eq (SparseCore.bigSep_erase' (Φ := fun b : Pos => (wr b ∅ : sProp 𝕄)) (Finset.mem_univ b))) $$ Hidle
    ihave H2 := (Entails.of_eq (SparseCore.bigSep_erase' (Φ := fun b : Pos => (wr b Finset.univ : sProp 𝕄)) (Finset.mem_univ b))) $$ Hr
    icases H1 with ⟨H1, -⟩
    icases H2 with ⟨H2, -⟩
    unfold wr
    iapply (count_count_false EM (γ := (pos b).val) (m := enc ∅) (n := enc Finset.univ))
    isplitl [H1] <;> iassumption

/-! ## The launch -/

section Launch

variable (m : (ℓ : Loc nD τ sig) → Buf (Elt F) ℓ) (N : Dev nD → S16384x128.Idx → Elt F .f32)

/-- What the launch deals the certificate: the handshakes' rounds, the pipelines' rounds, the records. -/
def u₀ : UU := (initOf (K (F := F)).hsCells (K (F := F)).hsToks,
  (initOf (Pipeline.cells (Pipeline.pin (pcfgs (F := F)) adm) phinj) (Pipeline.launchToks (Pipeline.pin (pcfgs (F := F)) adm) phinj), (recs, 1)))

/-- What a device's TensorCore starts with besides its own. -/
def start (d : Dev nD) : sProp (MT nD τ sig (HIx 2) (Elt F) ℕ UU ℕ) := iprop(dealt 0 d ∗ dealt 1 d ∗ racing m N d)

theorem ghost_split : (ownU (u₀ (F := F)) : sProp 𝕄)
    ⊢ iprop(BI.own (EH (initOf (K (F := F)).hsCells (K (F := F)).hsToks))
      ∗ BI.own (EP (initOf (Pipeline.cells (Pipeline.pin (pcfgs (F := F)) adm) phinj) (Pipeline.launchToks (Pipeline.pin (pcfgs (F := F)) adm) phinj)))
      ∗ BI.own (EM recs)) := by
  unfold u₀
  iintro Hu
  ihave H := (ownU_pair (initOf (K (F := F)).hsCells (K (F := F)).hsToks) _) $$ Hu
  icases H with ⟨HH, HR⟩
  ihave HR := (own_pair_emb embR _ _) $$ HR
  icases HR with ⟨HP, HR⟩
  ihave HR := (own_pair_emb _ _ _) $$ HR
  icases HR with ⟨HM, -⟩
  isplitl [HH]; · iexact HH
  isplitl [HP]; · iexact HP
  iexact HM

theorem pipes_deal : (BI.own (EP (initOf (Pipeline.cells (Pipeline.pin (pcfgs (F := F)) adm) phinj) (Pipeline.launchToks (Pipeline.pin (pcfgs (F := F)) adm) phinj))) : sProp 𝕄)
    ⊢ iprop(|==> (dealt 0 (0 : Dev nD) ∗ dealt 1 (0 : Dev nD))) := by
  have h := Pipeline.fund_ghost (Pipeline.pin (pcfgs (F := F)) adm) (EP (F := F)) phinj
  rw [bigSep_univ_of_subsingleton (0 : Fin 1), bigSep_univ_of_subsingleton (0 : Fin 1)] at h
  have e (A B C E : sProp 𝕄) : iprop((A ∗ B) ∗ C ∗ E) ⊢ iprop((A ∗ C) ∗ B ∗ E) := by
    iintro ⟨⟨H0, H1⟩, ⟨H2, H3⟩⟩
    isplitl [H0 H2]
    · isplitl [H0] <;> iassumption
    · isplitl [H1] <;> iassumption
  refine h.trans (BI.bupd_mono ?_)
  rw [show (Finset.univ : Finset (Fin 2)) = {0, 1} by decide, SparseCore.bigSep_insert' (by decide), SparseCore.bigSep_insert' (by decide),
    bigSep_singleton, bigSep_singleton]
  unfold dealt
  exact e _ _ _ _

theorem racing_all (d : Dev nD) : racing m N d ⊢ (bigSep Finset.univ fun thr : Thread nD τ => bigSep Finset.univ fun q : Fin 2 => (P m N).x q thr : sProp 𝕄) := by
  have e1 (thr : Thread nD τ) : racing m N d ⊢ (bigSep Finset.univ fun q : Fin 2 => (P m N).x q thr : sProp 𝕄) := by
    rw [show (Finset.univ : Finset (Fin 2)) = {0, 1} by decide, SparseCore.bigSep_insert' (by decide), bigSep_singleton]
    have hd : thr.1 = d := Subsingleton.elim _ _
    show _ ⊢ iprop(emp ∗ racing m N thr.1)
    rw [hd]
    iintro H
    isplitr; · iempintro
    iexact H
  exact bigSep_intro_persistent fun thr _ => e1 thr

theorem hu₀ : (ownU (u₀ (F := F)) : sProp 𝕄)
    ⊢ |={Set.univ}=> iprop(BI.own (EH (initOf (K (F := F)).hsCells (K (F := F)).hsToks)) ∗ (bigSep Finset.univ fun d : Dev nD => start m N d)
        ∗ bigSep Finset.univ fun thr : Thread nD τ => bigSep Finset.univ fun q : Fin 2 => (P m N).x q thr) := by
  iintro Hu
  ihave H := ghost_split $$ Hu
  icases H with ⟨HH, HP, HM⟩
  imod pipes_deal $$ HP with ⟨H0, H1⟩
  have eb : (BI.own (EM recs) : sProp 𝕄) ⊢ raceBody (0 : Dev nD) (m (idsLoc 0)) (outG m N 0) := by
    unfold raceBody
    iintro HM
    iright
    iapply recs_deal; iexact HM
  have ea : (raceBody (0 : Dev nD) (m (idsLoc 0)) (outG m N 0) : sProp 𝕄) ⊢ iprop(|={Set.univ}=> racing m N 0) := by
    unfold racing
    exact inv_alloc
  imod (eb.trans ea) $$ HM with #Hrace
  imodintro
  isplitl [HH]; · iexact HH
  isplitl [H0 H1]
  · rw [bigSep_univ_of_subsingleton (0 : Fin 1)]
    unfold start
    isplitl [H0]; · iexact H0
    isplitl [H1]; · iexact H1
    iexact Hrace
  · iapply (racing_all m N 0); iexact Hrace

end Launch

end Cert.Proof

end
-- ==== Proof.Main.lean ====
/- @main on the TensorCore: the reshapes, the gather and winner call, the compute region, the copy region, the row-write
   call. -/
module

public import proofs.«01_k».proof.Proof.Race
public import Idealize.ShloMosaic.Lib.StableHlo.Run

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.ExclCount
open Idealize.ShloMosaic.StableHlo (held held_split held_sdiff_result wp_hlo_within)

variable {F : FTy → Type} [FloatOps F]

local notation "𝕄" => MT nD τ sig (HIx 2) (Elt F) ℕ UU ℕ

/-! ## The values -/

section Values

variable (m : (ℓ : Loc nD τ sig) → Buf (Elt F) ℓ)

/-- The convolution's middle tap, one value per feature. -/
def tapV (d : Dev nD) : S256x1x1.Idx → Elt F .f32 :=
  extractStridedSlice S256x1x1 ![0, 0, 3] (m ((SparseCore.T d).loc main_arg3) : S256x1x7.Idx → Elt F .f32) slices_S256x1x7_S256x1x1_0_0_3
def tapRow (d : Dev nD) : S256.Idx → Elt F .f32 := shapeCast S256 (tapV m d) shapeCasts_S256x1x1_S256
def wmV (d : Dev nD) : S1x256.Idx → Elt F .f32 := shapeCast S1x256 (tapRow m d) shapeCasts_S256_S1x256
def biasV (d : Dev nD) : S1x128.Idx → Elt F .f32 := shapeCast S1x128 (m ((SparseCore.T d).loc main_arg5) : S128.Idx → Elt F .f32) shapeCasts_S128_S1x128
def gamV (d : Dev nD) : S1x128.Idx → Elt F .f32 := shapeCast S1x128 (m ((SparseCore.T d).loc main_arg6) : S128.Idx → Elt F .f32) shapeCasts_S128_S1x128
def betV (d : Dev nD) : S1x128.Idx → Elt F .f32 := shapeCast S1x128 (m ((SparseCore.T d).loc main_arg7) : S128.Idx → Elt F .f32) shapeCasts_S128_S1x128

/-- The compute region's arrays. -/
def theArrs (d : Dev nD) : Arrs F where
  msgs := m (msgLoc d)
  old := gath (m (tabLoc d)) (m (idsLoc d))
  wm := wmV m d
  wl := m (wlLoc d)
  bias := biasV m d
  gam := gamV m d
  bet := betV m d
  out := m (nrmLoc d)

/-- The normalised rows. -/
def newRows (d : Dev nD) : S16384x128.Idx → Elt F .f32 := (theArrs m d).fin

end Values

/-! ## The steps of @main -/

section Steps

variable (d : Dev nD)

/-- A host operation from one array into another. -/
theorem host1 {x y : Ref sig .tc} (hxy : (Proc.devRef .tc x : DevRef τ sig) ≠ Proc.devRef .tc y) (op : HloOp τ sig (Elt F))
    (hb : op.bufs = {Proc.devRef .tc x, Proc.devRef .tc y}) (hw : op.writes = {Proc.devRef .tc y}) (hfr : op.fresh = ∅)
    (f : Buf (Elt F) ((SparseCore.T d).loc x)) (g : Buf (Elt F) ((SparseCore.T d).loc y)) (r : Buf (Elt F) ((SparseCore.T d).loc y))
    (hr : ∀ V : Valuation τ sig (Elt F), V (Proc.devRef .tc x) = f → op.result V (Proc.devRef .tc y) = r)
    {hp : (SparseCore.T d : Thread nD τ).2.kind.runsHlo = true} (Φ : PUnit.{1} → sProp (MT nD τ sig (HIx 2) (Elt F) ℕ UU ℕ)) :
    iprop(boundary (SparseCore.T d) ∗ ((SparseCore.T d).loc x ↦{fullShare} f) ∗ ((SparseCore.T d).loc y ↦{fullShare} g))
      ⊢ iprop(((boundary (SparseCore.T d) ∗ ((SparseCore.T d).loc x ↦{fullShare} f) ∗ ((SparseCore.T d).loc y ↦{fullShare} r)) -∗ Φ PUnit.unit)
        -∗ wp frame (wpE ((K (F := F)).defs (D (F := F))) 𝒱 (SparseCore.T d) none) Set.univ (hlo hp op (fun _ => .ret PUnit.unit)) Φ) := by
  obtain ⟨V, hVx, hVy⟩ : ∃ V : Valuation τ sig (Elt F), V (Proc.devRef .tc x) = f ∧ V (Proc.devRef .tc y) = g :=
    ⟨Function.update (Function.update (fun b => Classical.arbitrary _) (Proc.devRef .tc x) f) (Proc.devRef .tc y) g,
      by rw [Function.update_of_ne hxy, Function.update_self], by rw [Function.update_self]⟩
  have hh (W : Valuation τ sig (Elt F)) : (held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    unfold held
    rw [SparseCore.bigSep_insert' (by simpa using hxy), bigSep_singleton]
  have h1 := hh V
  have h2 := hh (op.result V)
  rw [hVx, hVy] at h1
  rw [hr V hVx, op.result_of_not_mem V (b := Proc.devRef .tc x) (by rw [hw]; simpa using hxy), hVx] at h2
  iintro ⟨Hb, Hx, Hy⟩ Hk
  iapply (wp_hlo_within 𝒱 (SparseCore.T d) none Set.univ (op := op) (S := {Proc.devRef .tc x, Proc.devRef .tc y}) hb.subset (V := V) hfr) $$ [Hb Hx Hy]
  · isplitl [Hb]; · iexact Hb
    rw [h1]
    isplitl [Hx] <;> iassumption
  rw [h2]
  iintro ⟨Hb, Hx, Hy⟩
  rw [wp_ret]; imodintro
  iapply Hk
  isplitl [Hb]; · iexact Hb
  isplitl [Hx] <;> iassumption

/-- A region's run, followed by what needs its post. -/
theorem region_then {A B : sProp 𝕄} (p : Fin 2)
    (h : A ⊢ wp frame (wpE (D (F := F)) 𝒱 (SparseCore.T d) none) Set.univ (Prog.lift (.customCall (Pipeline.entry p) ())) fun _ : PUnit.{1} => B)
    (Φ : PUnit.{1} → sProp (MT nD τ sig (HIx 2) (Elt F) ℕ UU ℕ)) :
    A ⊢ iprop((B -∗ Φ PUnit.unit) -∗ wp frame (wpE ((K (F := F)).defs (D (F := F))) 𝒱 (SparseCore.T d) none) Set.univ
      (Prog.lift (.customCall (SparseCore.inner (Pipeline.entry p)) ())) Φ) := by
  have e := (K (F := F)).wp_liftProg (D (F := F)) 𝒱 (SparseCore.T d) Set.univ none
    (Prog.lift (.customCall (Pipeline.entry p) ())) (fun _ : PUnit.{1} => B)
  have e2 := (h.trans e).trans (wp_wand frame (wpE ((K (F := F)).defs (D (F := F))) 𝒱 (SparseCore.T d) none) Set.univ (Q' := Φ))
  iintro HA Hk
  iapply e2 $$ HA
  iintro %u HB
  iapply Hk; iexact HB

variable (m : (ℓ : Loc nD τ sig) → Buf (Elt F) ℓ) (N : Dev nD → S16384x128.Idx → Elt F .f32)

/-- The first call. -/
theorem call0 (κ : GSem nD τ sig → ℕ) (f : Buf (Elt F) (oldLoc d)) (w : Buf (Elt F) (wtLoc d)) (Φ : PUnit.{1} → sProp (MT nD τ sig (HIx 2) (Elt F) ℕ UU ℕ)) :
    iprop((K (F := F)).ctx EH (P m N) κ ∗ (K (F := F)).tcSt EH d 0
        ∗ (tabLoc d ↦{fullShare} m (tabLoc d)) ∗ (idsLoc d ↦{fullShare} m (idsLoc d)) ∗ (oldLoc d ↦{fullShare} f) ∗ (wtLoc d ↦{fullShare} w))
      ⊢ iprop((((K (F := F)).tcSt EH d 1 ∗ (tabLoc d ↦{fullShare} m (tabLoc d)) ∗ (idsLoc d ↦{fullShare} m (idsLoc d))
            ∗ (oldLoc d ↦{fullShare} gath (m (tabLoc d)) (m (idsLoc d)))
            ∗ ∃ w : Buf (Elt F) (wtLoc d), (wtLoc d ↦{fullShare} w) ∗ ⌜Winner.Upto (idN (m (idsLoc d))) 16384 w⌝) -∗ Φ PUnit.unit)
        -∗ wp frame (wpE ((K (F := F)).defs (D (F := F))) 𝒱 (SparseCore.T d) none) Set.univ ((K (F := F)).run d 0) Φ) := by
  iintro ⟨#Hctx, Hst, Htab, Hids, Hold, Hwt⟩ Hk
  ihave H := (deal0 (F := F) m d f w) $$ [Htab Hids Hold Hwt]
  · isplitl [Htab]; · iexact Htab
    isplitl [Hids]; · iexact Hids
    isplitl [Hold] <;> iassumption
  icases H with ⟨Hgo, Ht, Hi⟩
  iapply ((K (F := F)).wp_run (D (F := F)) 𝒱 (EH := EH) (P := P m N) κ d 0) $$ [Hst Hgo Ht Hi Hk]
  isplitr; · iexact Hctx
  isplitl [Hst]; · iexact Hst
  isplitl [Hgo]
  · rw [st_eq]; iexact Hgo
  iintro ⟨Hst, Hdn⟩
  ihave Hdn := (Entails.of_eq (dn_eq (F := F) m N d 0)) $$ Hdn
  iapply Hk
  isplitl [Hst]; · iexact Hst
  iapply (join0 (F := F) m d)
  isplitl [Hdn]; · iexact Hdn
  isplitl [Ht] <;> iassumption

/-- The second call. -/
theorem call1 (κ : GSem nD τ sig → ℕ) (w : Buf (Elt F) (wtLoc d)) (hw : Winner.Upto (idN (m (idsLoc d))) 16384 w)
    (Φ : PUnit.{1} → sProp (MT nD τ sig (HIx 2) (Elt F) ℕ UU ℕ)) :
    iprop((K (F := F)).ctx EH (P m N) κ ∗ (K (F := F)).tcSt EH d 1
        ∗ (idsLoc d ↦{fullShare} m (idsLoc d)) ∗ (wtLoc d ↦{fullShare} w) ∗ (nrmLoc d ↦{fullShare} N d) ∗ (bigSep Finset.univ fun b : Pos => wr b ∅))
      ⊢ iprop((((K (F := F)).tcSt EH d 2 ∗ (idsLoc d ↦{Transfers.shareDrop fullShare 32} m (idsLoc d)) ∗ (bigSep Finset.univ fun b : Pos => wr b Finset.univ)) -∗ Φ PUnit.unit)
        -∗ wp frame (wpE ((K (F := F)).defs (D (F := F))) 𝒱 (SparseCore.T d) none) Set.univ ((K (F := F)).run d 1) Φ) := by
  iintro ⟨#Hctx, Hst, Hids, Hwt, Hn, Hwr⟩ Hk
  ihave H := (deal1 (F := F) m N d w hw) $$ [Hids Hwt Hn Hwr]
  · isplitl [Hids]; · iexact Hids
    isplitl [Hwt]; · iexact Hwt
    isplitl [Hn] <;> iassumption
  icases H with ⟨Hgo, Hi⟩
  iapply ((K (F := F)).wp_run (D (F := F)) 𝒱 (EH := EH) (P := P m N) κ d 1) $$ [Hst Hgo Hi Hk]
  isplitr; · iexact Hctx
  isplitl [Hst]; · iexact Hst
  isplitl [Hgo]
  · have eg : (tiles (go1 m N d) : sProp 𝕄) ⊢ bigSep Finset.univ fun c : Fin ((K (F := F)).nCore 1) => (P m N).st 1 d c :=
      Entails.of_eq (st_eq (F := F) m N d 1).symm
    iapply eg; iexact Hgo
  iintro ⟨Hst, Hdn⟩
  have ed : (bigSep Finset.univ fun c : Fin ((K (F := F)).nCore 1) => (P m N).dn 1 d c) ⊢ (bigSep Finset.univ fun b : Pos => wr b Finset.univ : sProp 𝕄) :=
    (Entails.of_eq (dn_eq (F := F) m N d 1)).trans (Entails.of_eq (join1 d))
  ihave Hdn := ed $$ Hdn
  iapply Hk
  isplitl [Hst]; · iexact Hst
  isplitl [Hi] <;> iassumption

end Steps

/-! ## The whole of @main -/

section Whole

variable (m : (ℓ : Loc nD τ sig) → Buf (Elt F) ℓ) (ρ : Dev nD → PrngReg)

abbrev lc (d : Dev nD) (b : Ref sig .tc) : Loc nD τ sig := (SparseCore.T d).loc b

set_option maxHeartbeats 4000000 in
theorem unscopedBufs_eq (d : Dev nD) (W : (b : Ref sig .tc) → Buf (Elt F) ((d.tc : Thread nD τ).loc b)) :
    (unscopedBufs d W : sProp 𝕄)
      = iprop((lc d main_arg0 ↦{fullShare} W main_arg0) ∗ (lc d main_arg1 ↦{fullShare} W main_arg1) ∗ (lc d main_arg2 ↦{fullShare} W main_arg2)
        ∗ (lc d main_arg3 ↦{fullShare} W main_arg3) ∗ (lc d main_arg4 ↦{fullShare} W main_arg4) ∗ (lc d main_arg5 ↦{fullShare} W main_arg5)
        ∗ (lc d main_arg6 ↦{fullShare} W main_arg6) ∗ (lc d main_arg7 ↦{fullShare} W main_arg7)
        ∗ (lc d main_v0 ↦{fullShare} W main_v0) ∗ (lc d main_v1 ↦{fullShare} W main_v1) ∗ (lc d main_v2 ↦{fullShare} W main_v2)
        ∗ (lc d main_v3_0 ↦{fullShare} W main_v3_0) ∗ (lc d main_v3_1 ↦{fullShare} W main_v3_1)
        ∗ (lc d main_v4 ↦{fullShare} W main_v4) ∗ (lc d main_v5 ↦{fullShare} W main_v5) ∗ (lc d main_v6 ↦{fullShare} W main_v6)
        ∗ (lc d main_v7 ↦{fullShare} W main_v7) ∗ (lc d main_v8 ↦{fullShare} W main_v8) ∗ lc d main_v9 ↦{fullShare} W main_v9) := by
  unfold unscopedBufs
  rw [show (Finset.univ.filter fun b : Ref sig .tc => ¬ b.isScoped) = {main_arg0, main_arg1, main_arg2, main_arg3, main_arg4, main_arg5, main_arg6, main_arg7,
      main_v0, main_v1, main_v2, main_v3_0, main_v3_1, main_v4, main_v5, main_v6, main_v7, main_v8, main_v9} by decide]
  iterate 18 rw [SparseCore.bigSep_insert' (by decide)]
  rw [bigSep_singleton]

/-- What @main leaves the claims: the arguments (of the ids a share) and the output. -/
abbrev FIN (d : Dev nD) : sProp (MT nD τ sig (HIx 2) (Elt F) ℕ UU ℕ) :=
  iprop((lc d main_arg0 ↦{Transfers.shareDrop fullShare 32} m (lc d main_arg0)) ∗ (lc d main_arg1 ↦{fullShare} m (lc d main_arg1)) ∗ (lc d main_arg2 ↦{fullShare} m (lc d main_arg2))
    ∗ (lc d main_arg3 ↦{fullShare} m (lc d main_arg3)) ∗ (lc d main_arg4 ↦{fullShare} m (lc d main_arg4)) ∗ (lc d main_arg5 ↦{fullShare} m (lc d main_arg5))
    ∗ (lc d main_arg6 ↦{fullShare} m (lc d main_arg6)) ∗ (lc d main_arg7 ↦{fullShare} m (lc d main_arg7))
    ∗ (outLoc d ↦{fullShare} (outG m (newRows m) d : Buf (Elt F) (outLoc d))))

theorem tcSt1_split (d : Dev nD) : ∃ R : sProp (MT nD τ sig (HIx 2) (Elt F) ℕ UU ℕ), (K (F := F)).tcSt EH d 1 = iprop(owing (F := F) d ∗ R) := ⟨_, rfl⟩

/-- Every launch of @main: each array by its step's rule. -/
theorem hmain (κ : GSem nD τ sig → ℕ) (d : Dev nD) :
    iprop((K (F := F)).ctx EH (P m (newRows m)) κ ∗ (K (F := F)).tcSt EH d 0 ∗ (K (F := F)).tcRes m ρ d ∗ start m (newRows m) d)
      ⊢ wp frame (wpE ((K (F := F)).defs (D (F := F))) 𝒱 (SparseCore.T d) none) Set.univ (main d)
          fun _ => iprop((K (F := F)).tcSt EH d 2 ∗ FIN m d ∗ (K (F := F)).tcEnd d) := by
  obtain ⟨R, hR⟩ := tcSt1_split (F := F) d
  unfold SparseCore.Cfg.tcRes SparseCore.Cfg.tcEnd start
  rw [unscopedBufs_eq]
  simp only [main, wp_bind, wp_pure]
  iintro ⟨#Hctx, Hst, ⟨Hb, ⟨A0, A1, A2, A3, A4, A5, A6, A7, V0, V1, V2, V30, V31, V4, V5, V6, V7, V8, V9⟩, Hts, -⟩, ⟨Hd0, Hd1, #Hrace⟩⟩
  ihave #Hlev := ((K (F := F)).ctx_levAts κ) $$ Hctx
  -- the middle tap, as a row
  iapply (host1 d (x := main_arg3) (y := main_v0) (by decide) _ rfl rfl rfl _ _ (tapV m d) (fun V h => (StableHlo.unary_result _ _ _ _ _ V).trans (by rw [h]; rfl))) $$ [Hb A3 V0]
  · isplitl [Hb]; · iexact Hb
    isplitl [A3] <;> iassumption
  iintro ⟨Hb, A3, V0⟩
  iapply (host1 d (x := main_v0) (y := main_v1) (by decide) _ rfl rfl rfl _ _ (tapRow m d) (fun V h => (StableHlo.reshape_result _ _ _ _ _ _ V).trans (by rw [h]; rfl))) $$ [Hb V0 V1]
  · isplitl [Hb]; · iexact Hb
    isplitl [V0] <;> iassumption
  iintro ⟨Hb, -, V1⟩
  iapply (host1 d (x := main_v1) (y := main_v2) (by decide) _ rfl rfl rfl _ _ (wmV m d) (fun V h => (StableHlo.reshape_result _ _ _ _ _ _ V).trans (by rw [h]; rfl))) $$ [Hb V1 V2]
  · isplitl [Hb]; · iexact Hb
    isplitl [V1] <;> iassumption
  iintro ⟨Hb, -, V2⟩
  -- the gathered rows and the winner table
  iapply (call0 d m (newRows m) κ _ _) $$ [Hst A2 A0 V30 V31]
  · isplitr; · iexact Hctx
    isplitl [Hst]; · iexact Hst
    isplitl [A2]; · iexact A2
    isplitl [A0]; · iexact A0
    isplitl [V30] <;> iassumption
  iintro ⟨Hst, A2, A0, V30, ⟨%w, V31, %hw⟩⟩
  -- the three parameter rows
  iapply (host1 d (x := main_arg5) (y := main_v4) (by decide) _ rfl rfl rfl _ _ (biasV m d) (fun V h => (StableHlo.reshape_result _ _ _ _ _ _ V).trans (by rw [h]; rfl))) $$ [Hb A5 V4]
  · isplitl [Hb]; · iexact Hb
    isplitl [A5] <;> iassumption
  iintro ⟨Hb, A5, V4⟩
  iapply (host1 d (x := main_arg6) (y := main_v5) (by decide) _ rfl rfl rfl _ _ (gamV m d) (fun V h => (StableHlo.reshape_result _ _ _ _ _ _ V).trans (by rw [h]; rfl))) $$ [Hb A6 V5]
  · isplitl [Hb]; · iexact Hb
    isplitl [A6] <;> iassumption
  iintro ⟨Hb, A6, V5⟩
  iapply (host1 d (x := main_arg7) (y := main_v6) (by decide) _ rfl rfl rfl _ _ (betV m d) (fun V h => (StableHlo.reshape_result _ _ _ _ _ _ V).trans (by rw [h]; rfl))) $$ [Hb A7 V6]
  · isplitl [Hb]; · iexact Hb
    isplitl [A7] <;> iassumption
  iintro ⟨Hb, A7, V6⟩
  -- the normalised rows
  ihave Hst := (Entails.of_eq hR) $$ Hst
  icases Hst with ⟨HO, HR⟩
  iapply (region_then d 0 (compute_region d (theArrs m d))) $$ [Hb A1 V30 V2 A4 V4 V5 V6 V7 HO Hd0]
  · isplitl [Hb]; · iexact Hb
    isplitl [A1 V30 V2 A4 V4 V5 V6 V7]
    · isplitl [A1]; · iexact A1
      isplitl [V30]; · iexact V30
      isplitl [V2]; · iexact V2
      isplitl [A4]; · iexact A4
      isplitl [V4]; · iexact V4
      isplitl [V5]; · iexact V5
      isplitl [V6]; · iexact V6
      iexact V7
    isplitl [HO]; · iexact HO
    isplitr; · iexact Hlev
    iexact Hd0
  iintro ⟨Hb, ⟨A1, -, -, A4, -, -, -, V7⟩, HO⟩
  -- the table's copy
  iapply (region_then d 1 (copy_region d (fun c => m (tabLoc c)) (fun c => m (cpLoc c)))) $$ [Hb A2 V8 HO Hd1]
  · isplitl [Hb]; · iexact Hb
    isplitl [A2]; · iexact A2
    isplitl [V8]; · iexact V8
    isplitl [HO]; · iexact HO
    isplitr; · iexact Hlev
    iexact Hd1
  iintro ⟨Hb, A2, V8, HO⟩
  iapply (host1 d (x := main_v8) (y := main_v9) (by decide) _ rfl rfl rfl _ _ (m (tabLoc d)) (fun V h => (StableHlo.unary_result _ _ _ _ _ V).trans (by rw [h]; rfl))) $$ [Hb V8 V9]
  · isplitl [Hb]; · iexact Hb
    isplitl [V8] <;> iassumption
  iintro ⟨Hb, -, V9⟩
  -- the row writes
  unfold racing
  icases Hrace with ⟨%ι, #Hinv⟩
  imod (race_enter (F := F) d (m (idsLoc d)) (outG m (newRows m) d) (m (tabLoc d)) (fun x hx => (scat_of_unnamed fun b => by obtain ⟨p, rfl⟩ := pos_surjective b; exact hx p).symm)) $$ [V9] with Hwr
  · isplitr; · iexact Hinv
    iexact V9
  iapply (call1 d m (newRows m) κ w hw) $$ [HO HR A0 V31 V7 Hwr]
  · isplitr; · iexact Hctx
    isplitl [HO HR]
    · rw [hR]; isplitl [HO] <;> iassumption
    isplitl [A0]; · iexact A0
    isplitl [V31]; · iexact V31
    isplitl [V7]; · iexact V7
    iexact Hwr
  iintro ⟨Hst, A0, Hwr⟩
  imod (race_leave (F := F) d (m (idsLoc d)) (outG m (newRows m) d)) $$ [Hwr] with V9
  · isplitr; · iexact Hinv
    iexact Hwr
  imodintro
  isplitl [Hst]; · iexact Hst
  isplitr [Hb Hts]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact V9
  isplitl [Hb] <;> iassumption

end Whole

end Cert.Proof

end
-- ==== Proof.Same.lean ====
/- The two printed readings of the program are one program over any float values. -/
module
public import proofs.«01_k».proof.Defs
public import proofs.«01_k».proof.Proof.Gen.Kernel
public import proofs.«01_k».proof.Proof.Gen.KernelIdeal
@[expose] public section

noncomputable section
namespace Cert.Proof
open Idealize.ShloMosaic

variable {F : FTy → Type} [FloatOps F]
/-! ## The calls' bodies -/

theorem body1 i : Cert.Kernel.cc0__gather_winner (F := F) i = Cert.KernelIdeal.cc0__gather_winner (F := F) i := rfl
theorem body2 i : Cert.Kernel.cc1__compute_body (F := F) i = Cert.KernelIdeal.cc1__compute_body (F := F) i := rfl
theorem body3 i : Cert.Kernel.cc2__copy_body (F := F) i = Cert.KernelIdeal.cc2__copy_body (F := F) i := rfl
theorem body4 i : Cert.Kernel.cc3__scatter_rows (F := F) i = Cert.KernelIdeal.cc3__scatter_rows (F := F) i := rfl
theorem body1' : Cert.Kernel.cc0__gather_winner (F := F) = Cert.KernelIdeal.cc0__gather_winner (F := F) := funext body1
theorem body2' : Cert.Kernel.cc1__compute_body (F := F) = Cert.KernelIdeal.cc1__compute_body (F := F) := funext body2
theorem body3' : Cert.Kernel.cc2__copy_body (F := F) = Cert.KernelIdeal.cc2__copy_body (F := F) := funext body3
theorem body4' : Cert.Kernel.cc3__scatter_rows (F := F) = Cert.KernelIdeal.cc3__scatter_rows (F := F) := funext body4
/-! ## The tables of bodies and the threads -/

set_option maxHeartbeats 8000000 in
theorem bodies_eq : Cert.Kernel.defs₀ (F := F) = Cert.KernelIdeal.defs₀ (F := F) := by
  unfold Cert.Kernel.defs₀ Cert.KernelIdeal.defs₀
  rw [body1', body2', body3', body4']
  funext p l a
  rcases p with _ | c | ⟨c, s⟩
  · match l with
    | 0 => rfl
    | 1 => rfl
    | 2 => rfl
    | 3 => rfl
  · rfl
  · match l with
    | 0 => rfl
    | 1 => rfl
    | 2 => rfl
    | 3 => rfl

theorem defs_eq : Cert.Kernel.defs (F := F) = Cert.KernelIdeal.defs (F := F) := by
  unfold Cert.Kernel.defs Cert.KernelIdeal.defs
  rw [bodies_eq]
  rfl
theorem threads_eq : Cert.Kernel.threads (F := F) = Cert.KernelIdeal.threads (F := F) := rfl

end Cert.Proof

end
-- ==== Proof.Run.lean ====
/- Every launch of the program ends with the arguments kept, the output complete and the counters at zero. -/
module

public import proofs.«01_k».proof.Defs
public import proofs.«01_k».proof.Proof.Gen.Kernel
public import proofs.«01_k».proof.Proof.Gen.Pre_in_range
public import proofs.«01_k».proof.Proof.Main
public import proofs.«01_k».proof.Proof.Same
public import Idealize.ShloMosaic.Lib.ReduceAll
public import Idealize.ShloMosaic.Lib.WordCmp
public import Idealize.ShloMosaic.Lib.StableHlo.Run

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.ExclCount
open Idealize.ShloMosaic.StableHlo (held held_split held_sdiff_result wp_hlo_within)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The final state -/

theorem agree1 (s' : Phys nD τ sig (Elt F)) (ℓ : Loc nD τ sig) (q : PosShare TreeShare) (f : Buf (Elt F) ℓ) :
    iprop((ℓ ↦{q} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := q) (f := f))) $$ [HSI H]
  · isplitl [HSI] <;> iassumption
  icases H with ⟨%h, HSI, -⟩
  isplitr
  · ipureintro; exact funext fun i => h i (Finset.mem_univ i)
  · iexact HSI

/-- What the claims read of device `d`'s final memory. -/
def Fin1 (d : Dev nD) (mem : (ℓ : Loc nD τ sig) → Buf (Elt F) ℓ) : Prop :=
  mem (lc d main_arg0) = m (lc d main_arg0) ∧ mem (lc d main_arg1) = m (lc d main_arg1) ∧ mem (lc d main_arg2) = m (lc d main_arg2)
    ∧ mem (lc d main_arg3) = m (lc d main_arg3) ∧ mem (lc d main_arg4) = m (lc d main_arg4) ∧ mem (lc d main_arg5) = m (lc d main_arg5)
    ∧ mem (lc d main_arg6) = m (lc d main_arg6) ∧ mem (lc d main_arg7) = m (lc d main_arg7)
    ∧ mem (outLoc d) = outG m (newRows m) d

def fq (d : Dev nD) (s' : Phys nD τ sig (Elt F)) : Prop := Fin1 m d s'.mem.mem

theorem hfin (d : Dev nD) (s' : Phys nD τ sig (Elt F)) : iprop(FIN m d ∗ SI s') ⊢ (⌜fq m d s'⌝ : sProp 𝕄) := by
  iintro ⟨⟨A0, A1, A2, A3, A4, A5, A6, A7, O⟩, HSI⟩
  ihave H := (agree1 s' _ _ _) $$ [A0 HSI]
  · isplitl [A0] <;> iassumption
  icases H with ⟨%h0, HSI⟩
  ihave H := (agree1 s' _ _ _) $$ [A1 HSI]
  · isplitl [A1] <;> iassumption
  icases H with ⟨%h1, HSI⟩
  ihave H := (agree1 s' _ _ _) $$ [A2 HSI]
  · isplitl [A2] <;> iassumption
  icases H with ⟨%h2, HSI⟩
  ihave H := (agree1 s' _ _ _) $$ [A3 HSI]
  · isplitl [A3] <;> iassumption
  icases H with ⟨%h3, HSI⟩
  ihave H := (agree1 s' _ _ _) $$ [A4 HSI]
  · isplitl [A4] <;> iassumption
  icases H with ⟨%h4, HSI⟩
  ihave H := (agree1 s' _ _ _) $$ [A5 HSI]
  · isplitl [A5] <;> iassumption
  icases H with ⟨%h5, HSI⟩
  ihave H := (agree1 s' _ _ _) $$ [A6 HSI]
  · isplitl [A6] <;> iassumption
  icases H with ⟨%h6, HSI⟩
  ihave H := (agree1 s' _ _ _) $$ [A7 HSI]
  · isplitl [A7] <;> iassumption
  icases H with ⟨%h7, HSI⟩
  ihave H := (agree1 s' _ _ _) $$ [O HSI]
  · isplitl [O] <;> iassumption
  icases H with ⟨%h8, -⟩
  ipureintro
  exact ⟨h0, h1, h2, h3, h4, h5, h6, h7, h8⟩

/-! ## The program's run -/

def QC : PUnit × MemSt nD τ sig (Elt F) → Prop := fun r => (∀ c : Dev nD, Fin1 m c r.2.mem) ∧ r.2.sem = fun _ => 0

/-- The whole program, over any float values: the arguments kept, the output at the row writes' values, every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (newRows m)) (A := ∅) facts v₀
    (fun q hq => match q with | 0 => nomatch hq | 1 => nomatch hq)
    (fun q _ => match q with | 0 => tileObl0 m (newRows m) hpre | 1 => tileObl1 m (newRows m) hpre)
    (fun q _ => SparseCore.Cfg.VecSplit.of_plain (vecSplit m (newRows m) q))
    m ρ main (start m (newRows m)) (FIN m) (u₀ (F := F)) (sep_elim_left.trans (hu₀ m (newRows m))) (hmain m ρ) (fq m) (hfin m) (QC m) (fun _ h hz => ⟨h, hz⟩)

/-! ## The precondition -/

theorem in_range_words {ids : IVec S16384 32} {a1 a2 a3 a4 a5 a6 a7}
    (h : Cert.Pre_in_range.fn (F := F) ids a1 a2 a3 a4 a5 a6 a7 = fun _ => 1#1) (j : S16384.Idx) : (ids j).toNat < 100000 := by
  have h0 := congrFun h (fun k => k.elim0)
  have : Subsingleton Cert.Pre_in_range.S_.Idx := ⟨fun a b => funext fun k => k.elim0⟩
  have e := Host.reduce_andi_all _ _ _ _ _ h0 j
  have e2 : IntOp.andi (IntOp.cmpi .sge (ids j) 0#32) (IntOp.cmpi .slt (ids j) (BitVec.ofNat 32 100000)) = 1#1 := e
  rw [WordCmp.andi_sge_zero_slt_ofNat (by decide)] at e2
  by_contra hc
  rw [decide_eq_false hc] at e2
  exact absurd e2 (by decide)

/-! ## The frames -/

theorem frame_ideal : Cert.quiescent_KernelIdeal := fun m ρ h =>
  (θ_run Cert.KernelIdeal.defs _ _).mono (fun _ h => ⟨fun c => by
    obtain ⟨h0, h1, h2, h3, h4, h5, h6, h7, _⟩ := h.1 c
    exact ⟨h0, h1, h2, h3, h4, h5, h6, h7⟩, h.2⟩) (run_main (F := Ideal) m ρ fun d j => in_range_words (h d) j)

theorem frame_kernel : Cert.quiescent_Kernel := fun m ρ h => by
  rw [defs_eq, threads_eq]
  exact (θ_run Cert.KernelIdeal.defs Cert.KernelIdeal.threads _).mono (fun _ h => ⟨fun c => by
    obtain ⟨h0, h1, h2, h3, h4, h5, h6, h7, _⟩ := h.1 c
    exact ⟨h0, h1, h2, h3, h4, h5, h6, h7⟩, h.2⟩) (run_main (F := Bits) m ρ fun d j => in_range_words (h d) j)

end Cert.Proof

end
-- ==== Proof.Rows.lean ====
/- One new row at the reals: the weighted sum over its two halves, then the layer norm. What the kernel computes of it. -/
module

public import proofs.«01_k».proof.Proof.Run
public import Idealize.ShloMosaic.Lib.Pointwise

@[expose] public section

noncomputable section

namespace Cert.Rows

open Idealize.ShloMosaic

/-- Entry `c` of a new row before the norm: the message half and the gathered half, each entry times its tap, through the layer. -/
def lin (u v : Fin 128 → EReal) (w : Fin 256 → EReal) (wl : Fin 128 → Fin 256 → EReal) (b : Fin 128 → EReal) (c : Fin 128) : EReal :=
  ((∑ k : Fin 128, u k * w ⟨k.val, by omega⟩ * wl c ⟨k.val, by omega⟩)
    + ∑ k : Fin 128, v k * w ⟨128 + k.val, by omega⟩ * wl c ⟨128 + k.val, by omega⟩) + b c

/-- The mean of a row of 128. -/
def mean (f : Fin 128 → EReal) : EReal := Ideal.div (∑ k : Fin 128, f k) (Ideal.ofBits .f32 1124073472#32)

/-- Entry `c` of the layer norm of row `f`. -/
def nrm (f g be : Fin 128 → EReal) (c : Fin 128) : EReal :=
  Ideal.div (f c - mean f)
      (Ideal.sqrt (mean (fun k => (f k - mean f) * (f k - mean f)) + Ideal.ofBits .f32 925353388#32)) * g c + be c

open Cert.KernelIdeal in
set_option maxRecDepth 16384 in
theorem normBlk_at (x1 x2 : S4096x128.Idx → Elt Ideal .f32) (wm : S1x256.Idx → Elt Ideal .f32) (wl : S128x256.Idx → Elt Ideal .f32)
    (b g be : S1x128.Idx → Elt Ideal .f32) (r : Fin 4096) (c : Fin 128) :
    Cert.Proof.normBlk x1 x2 wm wl b g be (ix2 r c)
      = nrm (lin (fun k => x1 (ix2 r k)) (fun k => x2 (ix2 r k)) (fun k => wm (ix2 0 k)) (fun n k => wl (ix2 n k)) (fun n => b (ix2 0 n)))
          (fun n => g (ix2 0 n)) (fun n => be (ix2 0 n)) c := by
  pointwise [Cert.Proof.normBlk, Gen.k1_pay1, Gen.k1_pay2]
  rfl

open Cert.KernelIdeal in
/-- Entry `(r, c)` of the kernel's new rows. -/
theorem normed_at (msgs old : S16384x128.Idx → Elt Ideal .f32) (wm : S1x256.Idx → Elt Ideal .f32) (wl : S128x256.Idx → Elt Ideal .f32)
    (b g be : S1x128.Idx → Elt Ideal .f32) (r : Fin 16384) (c : Fin 128) :
    Cert.Proof.normed msgs old wm wl b g be (ix2 r c)
      = nrm (lin (fun k => msgs (ix2 r k)) (fun k => old (ix2 r k)) (fun k => wm (ix2 0 k)) (fun n k => wl (ix2 n k)) (fun n => b (ix2 0 n)))
          (fun n => g (ix2 0 n)) (fun n => be (ix2 0 n)) c := by
  have hix : Cert.Proof.ixb ⟨r.val % 4096, by omega⟩ c = ix2 ⟨r.val % 4096, by omega⟩ c := by
    funext k; match k with | ⟨0, _⟩ => rfl | ⟨1, _⟩ => rfl
  have hrow (x : S16384x128.Idx → Elt Ideal .f32) (k : Fin 128) :
      Cert.Proof.rowsAt x ⟨r.val / 4096, by have := r.isLt; omega⟩ (ix2 ⟨r.val % 4096, by omega⟩ k) = x (ix2 r k) := by
    unfold Cert.Proof.rowsAt
    congr 1
    funext a
    match a with
    | ⟨0, _⟩ => exact Fin.ext (by show 4096 * (r.val / 4096) + r.val % 4096 = r.val; omega)
    | ⟨1, _⟩ => rfl
  have e : Cert.Proof.normed msgs old wm wl b g be (ix2 r c)
      = Cert.Proof.normBlk (Cert.Proof.rowsAt msgs ⟨r.val / 4096, by have := r.isLt; omega⟩)
          (Cert.Proof.rowsAt old ⟨r.val / 4096, by have := r.isLt; omega⟩) wm wl b g be (Cert.Proof.ixb ⟨r.val % 4096, by omega⟩ c) := rfl
  rw [e, hix, normBlk_at]
  simp only [hrow]

end Cert.Rows

end
-- ==== Proof.RefRows.lean ====
/- The reference's new rows at the reals, entry by entry. -/
module

public import proofs.«01_k».proof.Proof.Rows
public import proofs.«01_k».proof.Proof.Gen.ReferenceIdeal.Run
public import Idealize.ShloMosaic.Lib.ReduceAll
public import Idealize.ShloMosaic.Lib.Routing.Ops
public import Idealize.ShloMosaic.Lib.Routing.OpsPair
public import Idealize.ShloMosaic.Lib.Tactic.CleanTypes

@[expose] public section

noncomputable section

namespace Cert.Rows

open Idealize.ShloMosaic
open Cert.ReferenceIdeal Cert.ReferenceIdeal.Value Cert.ReferenceIdeal.Gen StableHlo

variable (V0 : Valuation Cert.ReferenceIdeal.τ Cert.ReferenceIdeal.sig (Elt Ideal))

/-- The arguments, at their plain types. -/
abbrev aIds : S16384.Idx → BitVec 32 := V0 (Proc.devRef .tc main_arg0)
abbrev aMsgs : S16384x128.Idx → EReal := V0 (Proc.devRef .tc main_arg1)
abbrev aTab : S100000x128.Idx → EReal := V0 (Proc.devRef .tc main_arg2)
abbrev aConv : S256x1x7.Idx → EReal := V0 (Proc.devRef .tc main_arg3)
abbrev aLin : S128x256.Idx → EReal := V0 (Proc.devRef .tc main_arg4)
abbrev aBias : S128.Idx → EReal := V0 (Proc.devRef .tc main_arg5)
abbrev aGam : S128.Idx → EReal := V0 (Proc.devRef .tc main_arg6)
abbrev aBet : S128.Idx → EReal := V0 (Proc.devRef .tc main_arg7)

/-- The wrapped index words. -/
def wrapped (ids : S16384.Idx → BitVec 32) : S16384x1.Idx → BitVec 32 :=
  broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 100000#32))) ids)

theorem wrapped_at (ids : S16384.Idx → BitVec 32) (h : ∀ j, (ids j).toNat < 100000) (r : Fin 16384) (z : Fin 1) : wrapped ids (ix2 r z) = ids (ix1 r) := by
  pointwise [wrapped]
  exact Routing.wrap_of_lt _ _ (lt_trans (h _) (by decide))

/-- The rows that the reference takes. -/
def taken (tab : S100000x128.Idx → EReal) (w : S16384x1.Idx → BitVec 32) : S16384x128.Idx → EReal :=
  select (broadcastInDim S16384x128 ![0] bcast_S16384_S16384x128_0 (Host.reduce IntOp.andi (andi (cmpi .sge w (broadcastInDim S16384x1 ![] bcast_S_S16384x1 (constantI S_ 32 0#32))) (cmpi .sle w (broadcastInDim S16384x1 ![0, 1] bcast_S1x1_S16384x1_0_1 (broadcastInDim S1x1 ![1] bcast_S1_S1x1_1 (constantI S1 32 99999#32))))) (constantI S_ 1 1#1) reducesTo_S16384x1_S16384_d1 h_S_)) (Host.gather gather_S100000x128_S16384x1_S16384x128_1_0_n_n_0_1_1128 tab w) (broadcastInDim S16384x128 ![] bcast_S_S16384x128 (constant (F := Ideal) S_ .f32 0x7FC00000#32))

theorem mask_word (v : BitVec 32) (h : v.toNat < 100000) : IntOp.andi (IntOp.cmpi .sge v 0#32) (IntOp.cmpi .sle v 99999#32) = 1#1 := by
  have hv : v.toInt = v.toNat := by rw [BitVec.toInt_eq_toNat_of_lt (by omega)]
  have h1 : (0#32).sle v = true := by rw [BitVec.sle_iff_toInt_le, hv]; simp
  have h2 : v.sle 99999#32 = true := by rw [BitVec.sle_iff_toInt_le, hv]; have : (99999#32).toInt = 99999 := by decide
                                        omega
  simp [IntOp.andi, IntOp.cmpi, h1, h2]

theorem taken_at (tab : S100000x128.Idx → EReal) (w : S16384x1.Idx → BitVec 32) (h : ∀ j, (w j).toNat < 100000) (r : Fin 16384) (c : Fin 128) :
    taken tab w (ix2 r c) = tab (ix2 ⟨(w (ix2 r 0)).toNat, h _⟩ c) := by
  have hm : broadcastInDim S16384x128 ![0] bcast_S16384_S16384x128_0 (Host.reduce IntOp.andi (andi (cmpi .sge w (broadcastInDim S16384x1 ![] bcast_S_S16384x1 (constantI S_ 32 0#32))) (cmpi .sle w (broadcastInDim S16384x1 ![0, 1] bcast_S1x1_S16384x1_0_1 (broadcastInDim S1x1 ![1] bcast_S1_S1x1_1 (constantI S1 32 99999#32))))) (constantI S_ 1 1#1) reducesTo_S16384x1_S16384_d1 h_S_) (ix2 r c) = 1#1 := by
    refine Host.reduce_andi_one _ _ _ _ _ rfl fun i => ?_
    obtain ⟨a, z, rfl⟩ : ∃ a z, i = ix2 a z := ⟨_, _, eq_ix2 i⟩
    pointwise
    exact mask_word _ (h _)
  unfold taken
  show Scalar.select _ _ _ = _
  rw [hm]
  show Host.gather _ _ _ (ix2 r c) = _
  rw [ix2_eq_valueIdx, Routing.gather_row _ rfl rfl rfl rfl rfl tab w r c ⟨(w (ix2 r 0)).toNat, h _⟩ (by rw [← ix2_eq_valueIdx]; exact (by simp)) (by decide)]
  rfl

set_option maxRecDepth 65536 in
theorem v3_at (r : Fin 16384) (x : Fin 256) (k : Fin 7) :
    (res_main_v3 V0 (ix3 r x k) : EReal) = if k = 3 then (if h : x.val < 128 then aMsgs V0 (ix2 r ⟨x.val, h⟩) else taken (aTab V0) (wrapped (aIds V0)) (ix2 r ⟨x.val - 128, by omega⟩)) else 0 := by
  have e : res_main_v3 V0 = pad S16384x256x7 ![0, 0, 3] ![0, 0, 3] ![0, 0, 0] (broadcastInDim S16384x256x1 ![0, 1] bcast_S16384x256_S16384x256x1_0_1 (concatenate S16384x256 1 [⟨S16384x128, aMsgs V0⟩, ⟨S16384x128, taken (aTab V0) (wrapped (aIds V0))⟩] concatenates_S16384x128_S16384x128_S16384x256_d1)) (sitofp (F := Ideal) .f32 (constantI S_ 32 0#32)) pads_S16384x256x1_S16384x256x7_000_000_330 h_S_ := rfl
  rw [e]
  pointwise
  by_cases hk : k = 3
  · subst hk
    rfl
  · rw [if_neg hk, dif_neg (by intro h; exact hk (Fin.ext (by show k.val = 3; omega)))]
    show ((((0#32 : BitVec 32).toInt : ℤ) : ℝ) : EReal) = 0
    simp

/-- The layer's sum over the 256 entries, where every tap but the middle one meets the padding. -/
theorem lin_of_taps (y : Fin 256 → Fin 7 → EReal) (hz : ∀ x k, k ≠ 3 → y x k = 0) (w : Fin 256 → Fin 7 → EReal) (wl : Fin 128 → Fin 256 → EReal)
    (b : Fin 128 → EReal) (c : Fin 128) :
    (∑ x : Fin 256, (y x 0 * w x 0 + y x 1 * w x 1 + y x 2 * w x 2 + y x 3 * w x 3 + y x 4 * w x 4 + y x 5 * w x 5 + y x 6 * w x 6) * wl c x) + b c
      = lin (fun k => y ⟨k.val, by omega⟩ 3) (fun k => y ⟨128 + k.val, by omega⟩ 3) (fun x => w x 3) wl b c := by
  have h : ∀ x, (y x 0 * w x 0 + y x 1 * w x 1 + y x 2 * w x 2 + y x 3 * w x 3 + y x 4 * w x 4 + y x 5 * w x 5 + y x 6 * w x 6) * wl c x
      = y x 3 * w x 3 * wl c x := fun x => by
    rw [hz x 0 (by decide), hz x 1 (by decide), hz x 2 (by decide), hz x 4 (by decide), hz x 5 (by decide), hz x 6 (by decide)]
    simp only [zero_mul, zero_add, add_zero]
  rw [Finset.sum_congr rfl fun x _ => h x, Fin.sum_univ_two_halves 128 128 rfl]
  rfl

/-- The padded rows, at their plain type. -/
abbrev padded : S16384x256x7.Idx → EReal := res_main_v3 V0

set_option maxRecDepth 16384 in
theorem v64_sum (r : Fin 16384) (c : Fin 128) :
    res_main_v64 V0 (ix2 r c) = (∑ x : Fin 256, (padded V0 (ix3 r x 0) * aConv V0 (ix3 x 0 0) + padded V0 (ix3 r x 1) * aConv V0 (ix3 x 0 1)
      + padded V0 (ix3 r x 2) * aConv V0 (ix3 x 0 2) + padded V0 (ix3 r x 3) * aConv V0 (ix3 x 0 3) + padded V0 (ix3 r x 4) * aConv V0 (ix3 x 0 4)
      + padded V0 (ix3 r x 5) * aConv V0 (ix3 x 0 5) + padded V0 (ix3 r x 6) * aConv V0 (ix3 x 0 6)) * aLin V0 (ix2 c x)) + aBias V0 (ix1 c) := by
  unfold res_main_v64
  clean_types
  pointwise

theorem v64_at (r : Fin 16384) (c : Fin 128) :
    res_main_v64 V0 (ix2 r c) = lin (fun k => aMsgs V0 (ix2 r k)) (fun k => taken (aTab V0) (wrapped (aIds V0)) (ix2 r k)) (fun k => aConv V0 (ix3 k 0 3))
      (fun n k => aLin V0 (ix2 n k)) (fun n => aBias V0 (ix1 n)) c := by
  have h3 (x : Fin 256) : padded V0 (ix3 r x 3) = if h : x.val < 128 then aMsgs V0 (ix2 r ⟨x.val, h⟩) else taken (aTab V0) (wrapped (aIds V0)) (ix2 r ⟨x.val - 128, by omega⟩) :=
    (v3_at V0 r x 3).trans (if_pos rfl)
  rw [v64_sum]
  refine (lin_of_taps (fun x k => padded V0 (ix3 r x k)) (fun x k hk => (v3_at V0 r x k).trans (if_neg hk)) (fun x k => aConv V0 (ix3 x 0 k))
    (fun n k => aLin V0 (ix2 n k)) (fun n => aBias V0 (ix1 n)) c).trans ?_
  have e1 : (fun k : Fin 128 => padded V0 (ix3 r ⟨k.val, by omega⟩ 3)) = fun k => aMsgs V0 (ix2 r k) := funext fun k => by
    rw [h3, dif_pos k.isLt]
  have e2 : (fun k : Fin 128 => padded V0 (ix3 r ⟨128 + k.val, by omega⟩ 3)) = fun k => taken (aTab V0) (wrapped (aIds V0)) (ix2 r k) := funext fun k => by
    rw [h3, dif_neg (by simp)]
    exact congrArg (fun j => taken (aTab V0) (wrapped (aIds V0)) (ix2 r j)) (Fin.ext (by simp))
  show lin (fun k : Fin 128 => padded V0 (ix3 r ⟨k.val, by omega⟩ 3)) (fun k : Fin 128 => padded V0 (ix3 r ⟨128 + k.val, by omega⟩ 3)) _ _ _ c = _
  rw [e1, e2]

/-- The reference's new rows. -/
def refRows : S16384x128.Idx → EReal :=
  addf (F := Ideal) (mulf (Host.divf (subf (res_main_v64 V0) (broadcastInDim S16384x128 ![0, 1] bcast_S16384x1_S16384x128_0_1 (res_main_v68 V0))) (broadcastInDim S16384x128 ![0, 1] bcast_S16384x1_S16384x128_0_1 (Host.sqrt (addf (Host.divf (broadcastInDim S16384x1 ![0] bcast_S16384_S16384x1_0 (Host.reduceAdd (mulf (res_main_v70 V0) (res_main_v70 V0)) (constant S_ .f32 0x00000000#32) reducesTo_S16384x128_S16384_d1 h_S_)) (broadcastInDim S16384x1 ![] bcast_S_S16384x1 (constant S_ .f32 0x43000000#32))) (broadcastInDim S16384x1 ![] bcast_S_S16384x1 (constant S_ .f32 0x3727C5AC#32)))))) (broadcastInDim S16384x128 ![0, 1] bcast_S1x128_S16384x128_0_1 (broadcastInDim S1x128 ![1] bcast_S128_S1x128_1 (aGam V0)))) (broadcastInDim S16384x128 ![0, 1] bcast_S1x128_S16384x128_0_1 (broadcastInDim S1x128 ![1] bcast_S128_S1x128_1 (aBet V0)))

set_option maxRecDepth 16384 in
theorem refRows_at (r : Fin 16384) (c : Fin 128) :
    refRows V0 (ix2 r c) = nrm (fun n => res_main_v64 V0 (ix2 r n)) (fun n => aGam V0 (ix1 n)) (fun n => aBet V0 (ix1 n)) c := by
  unfold refRows res_main_v70 res_main_v68
  clean_types
  pointwise
  rfl

end Cert.Rows

end
-- ==== Proof.RefScatter.lean ====
/- The reference's scatter: each named row of the table takes the update of the last position naming it. -/
module

public import proofs.«01_k».proof.Proof.RefRows
public import Idealize.ShloMosaic.Lib.Routing.OpsSet
public import Idealize.ShloMosaic.Lib.LaneScatter.Pure

@[expose] public section

noncomputable section

namespace Cert.Rows

open Idealize.ShloMosaic
open Cert.ReferenceIdeal Cert.ReferenceIdeal.Value Cert.ReferenceIdeal.Gen StableHlo

/-- How the scatter places its updates. -/
abbrev theScatter := scatter_S100000x128_S16384x1_S16384x128_1_0_0_1

theorem start_row (w : S16384x1.Idx → BitVec 32) (k : Fin 16384) (y : Fin 128) :
    theScatter.start (ix2 k y) w 0 = (w (ix2 k 0)).toInt := by
  unfold ScatterDims.start
  rw [dif_pos (by decide)]
  congr 2
  funext b
  match b with
  | ⟨0, _⟩ => rfl
  | ⟨1, _⟩ => rfl

theorem start_col (w : S16384x1.Idx → BitVec 32) (k : Fin 16384) (y : Fin 128) : theScatter.start (ix2 k y) w 1 = 0 := by
  unfold ScatterDims.start
  rw [dif_neg (by decide)]

theorem window_row (k : Fin 16384) (y : Fin 128) : theScatter.window (ix2 k y) 0 = 0 := by
  unfold ScatterDims.window
  rw [dif_neg (by decide)]

theorem window_col (k : Fin 16384) (y : Fin 128) : theScatter.window (ix2 k y) 1 = y.val := by
  unfold ScatterDims.window
  rw [dif_pos (by decide)]
  rfl

/-- The update at `(k, y)` lands at `(r, c)` when position `k` names row `r` and the columns agree. -/
theorem lands (w : S16384x1.Idx → BitVec 32) (k : Fin 16384) (y : Fin 128) (r : Fin 100000) (c : Fin 128) :
    theScatter.resultIdx? (ix2 k y) w = some (ix2 r c) ↔ (w (ix2 k 0)).toInt = r.val ∧ y = c := by
  rw [ix2_eq_valueIdx, ix2_eq_valueIdx, Routing.resultIdx?_ix2, ← ix2_eq_valueIdx, start_row, start_col, window_row, window_col]
  constructor
  · rintro ⟨h1, h2⟩; exact ⟨by omega, Fin.ext (by omega)⟩
  · rintro ⟨h1, rfl⟩; exact ⟨by omega, by omega⟩

/-- Whether the update at row-major position `n` goes to `(r, c)`. -/
def Hit (ids : S16384.Idx → BitVec 32) (r : Fin 100000) (c : Fin 128) (n : ℕ) : Prop := Cert.Proof.idN ids (n / 128) = r.val ∧ n % 128 = c.val

/-- The update at row-major position `n`. -/
def updAt {α : Type} (N : S16384x128.Idx → α) (n : ℕ) : α := N (ix2 ⟨n / 128 % 16384, Nat.mod_lt _ (by decide)⟩ ⟨n % 128, Nat.mod_lt _ (by decide)⟩)

theorem numel_upd : S16384x128.numel = 16384 * 128 := by decide

open scoped Classical in
theorem scatter_lastHit (tab : S100000x128.Idx → EReal) (ids : S16384.Idx → BitVec 32) (hids : ∀ j, (ids j).toNat < 100000)
    (N : S16384x128.Idx → EReal) (r : Fin 100000) (c : Fin 128) :
    Host.scatter theScatter (fun _ b => b) tab (wrapped ids) N (ix2 r c) = LaneScatter.lastHit (Hit ids r c) (updAt N) (tab (ix2 r c)) S16384x128.numel := by
  rw [Routing.scatter_at, ← Routing.foldl_finRange_lastHit]
  refine congrArg (fun f => (List.finRange S16384x128.numel).foldl f (tab (ix2 r c))) (funext fun a => funext fun n => ?_)
  have hn : n.val < 16384 * 128 := numel_upd ▸ n.isLt
  have hs : S16384x128.rowMajor.symm n = ix2 ⟨n.val / 128, by omega⟩ ⟨n.val % 128, by omega⟩ := by
    rw [ix2_eq_valueIdx]; exact Routing.symm22 n (by omega) (by omega)
  have hint : ((wrapped ids) (ix2 ⟨n.val / 128, by omega⟩ 0)).toInt = (Cert.Proof.idN ids (n.val / 128) : ℤ) := by
    rw [wrapped_at ids hids]
    unfold Cert.Proof.idN
    rw [dif_pos (by omega)]
    have hlt := hids (ix1 ⟨n.val / 128, by omega⟩)
    rw [BitVec.toInt_eq_toNat_of_lt (by omega)]
    have e : ix1 (⟨n.val / 128, by omega⟩ : Fin 16384) = Cert.Proof.ix1 ⟨n.val / 128, by omega⟩ := by
      funext k; match k with | ⟨0, _⟩ => rfl
    rw [e]
  rw [hs]
  have hiff : theScatter.resultIdx? (ix2 ⟨n.val / 128, by omega⟩ ⟨n.val % 128, by omega⟩) (wrapped ids) = some (ix2 r c) ↔ Hit ids r c n.val := by
    rw [lands, hint]
    unfold Hit
    exact and_congr Int.ofNat_inj Fin.ext_iff
  have hu : N (ix2 ⟨n.val / 128, by omega⟩ ⟨n.val % 128, by omega⟩) = updAt N n.val := by
    unfold updAt
    congr 2
    exact Fin.ext (Nat.mod_eq_of_lt (by omega)).symm
  rw [hu]
  by_cases h : Hit ids r c n.val
  · rw [if_pos h, if_pos (hiff.2 h)]
  · rw [if_neg h, if_neg (fun h' => h (hiff.1 h'))]

/-- The reference's scatter is the table with each named row replaced by the last update for it. -/
theorem scatter_eq (tab : S100000x128.Idx → EReal) (ids : S16384.Idx → BitVec 32) (hids : ∀ j, (ids j).toNat < 100000)
    (N : S16384x128.Idx → EReal) :
    Host.scatter theScatter (fun _ b => b) tab (wrapped ids) N = Cert.Proof.scat (F := Ideal) tab ids N := by
  classical
  funext x
  obtain ⟨r, c, rfl⟩ : ∃ r c, x = ix2 r c := ⟨_, _, eq_ix2 x⟩
  rw [scatter_lastHit tab ids hids]
  by_cases hx : ∃ b : Fin 16384, Cert.Proof.idN ids b.val = r.val
  · obtain ⟨b0, hb0⟩ := hx
    obtain ⟨b, hb⟩ := Cert.Proof.exists_last ids b0
    rw [hb0] at hb
    rw [Cert.Proof.scat_of_last (F := Ideal) (x := ix2 r c) (b := b) hb]
    have hdiv : (b.val * 128 + c.val) / 128 = b.val := by omega
    have hmod : (b.val * 128 + c.val) % 128 = c.val := by omega
    rw [LaneScatter.lastHit_of_last (k := b.val * 128 + c.val) (updAt N) _ ⟨by rw [hdiv]; exact hb.1, hmod⟩ (by rw [numel_upd]; omega) ?_]
    · unfold updAt
      congr 1
      funext k
      match k with
      | ⟨0, _⟩ => exact Fin.ext (by show (b.val * 128 + c.val) / 128 % 16384 = b.val; omega)
      | ⟨1, _⟩ => exact Fin.ext hmod
    · rintro j hj hjn ⟨h1, h2⟩
      rw [numel_upd] at hjn
      exact hb.2 ⟨j / 128, by omega⟩ (by show b.val < j / 128; omega) h1
  · rw [LaneScatter.lastHit_of_none (updAt N) _ (fun k hk h => hx ⟨⟨k / 128, by rw [numel_upd] at hk; omega⟩, h.1⟩)]
    exact (Cert.Proof.scat_of_unnamed (F := Ideal) (x := ix2 r c) (fun b hb => hx ⟨b, hb⟩)).symm

end Cert.Rows

end
-- ==== Proof.Value.lean ====
/- The kernel's output at the reals is the reference's. -/
module

public import proofs.«01_k».proof.Proof.RefScatter

@[expose] public section

noncomputable section

namespace Cert.Rows

open Idealize.ShloMosaic

section Kernel

open Cert.KernelIdeal

variable (m : (ℓ : Loc nD τ sig) → Buf (Elt Ideal) ℓ) (d : Dev nD)

theorem wmV_at (k : Fin 256) : Cert.Proof.wmV m d (ix2 0 k) = (m (Cert.Proof.lc d main_arg3) : S256x1x7.Idx → EReal) (ix3 k 0 3) := by
  pointwise [Cert.Proof.wmV, Cert.Proof.tapRow, Cert.Proof.tapV]
theorem biasV_at (n : Fin 128) : Cert.Proof.biasV m d (ix2 0 n) = (m (Cert.Proof.lc d main_arg5) : S128.Idx → EReal) (ix1 n) := by
  pointwise [Cert.Proof.biasV]
theorem gamV_at (n : Fin 128) : Cert.Proof.gamV m d (ix2 0 n) = (m (Cert.Proof.lc d main_arg6) : S128.Idx → EReal) (ix1 n) := by
  pointwise [Cert.Proof.gamV]
theorem betV_at (n : Fin 128) : Cert.Proof.betV m d (ix2 0 n) = (m (Cert.Proof.lc d main_arg7) : S128.Idx → EReal) (ix1 n) := by
  pointwise [Cert.Proof.betV]

/-- A gathered row is the row that the reference takes. -/
theorem gath_eq_taken (tab : S100000x128.Idx → EReal) (ids : S16384.Idx → BitVec 32) (h : ∀ j, (ids j).toNat < 100000) (r : Fin 16384) (k : Fin 128) :
    Cert.Proof.gath (F := Ideal) tab ids (ix2 r k) = taken tab (wrapped ids) (ix2 r k) := by
  have hw : ∀ j, (wrapped ids j).toNat < 100000 := fun j => by
    obtain ⟨a, z, rfl⟩ : ∃ a z, j = ix2 a z := ⟨_, _, eq_ix2 j⟩
    rw [wrapped_at ids h]; exact h _
  rw [taken_at tab _ hw]
  unfold Cert.Proof.gath
  congr 1
  funext a
  match a with
  | ⟨0, _⟩ =>
    refine Fin.ext ?_
    show Cert.Proof.idN ids r.val % 100000 = (wrapped ids (ix2 r 0)).toNat
    rw [wrapped_at ids h]
    have e : (ix1 r : S16384.Idx) = Cert.Proof.ix1 r := by
      funext k; match k with | ⟨0, _⟩ => rfl
    unfold Cert.Proof.idN
    rw [dif_pos r.isLt, e]
    exact Nat.mod_eq_of_lt (h _)
  | ⟨1, _⟩ => rfl

end Kernel

open Cert.ReferenceIdeal Cert.ReferenceIdeal.Value Cert.ReferenceIdeal.Gen StableHlo

/-- The new rows are the same on both sides, where the arguments agree. -/
theorem newRows_eq (m : (ℓ : Loc Cert.KernelIdeal.nD Cert.KernelIdeal.τ Cert.KernelIdeal.sig) → Buf (Elt Ideal) ℓ) (d : Dev Cert.KernelIdeal.nD)
    (V0 : Valuation τ sig (Elt Ideal))
    (h0 : aIds V0 = m (Cert.Proof.lc d Cert.KernelIdeal.main_arg0)) (h1 : aMsgs V0 = m (Cert.Proof.lc d Cert.KernelIdeal.main_arg1))
    (h2 : aTab V0 = m (Cert.Proof.lc d Cert.KernelIdeal.main_arg2)) (h3 : aConv V0 = m (Cert.Proof.lc d Cert.KernelIdeal.main_arg3))
    (h4 : aLin V0 = m (Cert.Proof.lc d Cert.KernelIdeal.main_arg4)) (h5 : aBias V0 = m (Cert.Proof.lc d Cert.KernelIdeal.main_arg5))
    (h6 : aGam V0 = m (Cert.Proof.lc d Cert.KernelIdeal.main_arg6)) (h7 : aBet V0 = m (Cert.Proof.lc d Cert.KernelIdeal.main_arg7))
    (hids : ∀ j, (aIds V0 j).toNat < 100000) :
    Cert.Proof.newRows m d = refRows V0 := by
  funext x
  obtain ⟨r, c, rfl⟩ : ∃ r c, x = ix2 r c := ⟨_, _, eq_ix2 x⟩
  rw [refRows_at]
  refine (normed_at _ _ _ _ _ _ _ r c).trans ?_
  simp only [v64_at, ← gath_eq_taken _ _ hids]
  rw [h0, h1, h2, h3, h4, h5, h6, h7]
  simp only [Cert.Proof.theArrs, wmV_at, biasV_at, gamV_at, betV_at]

/-- The reference's result is the kernel's, where the arguments agree. -/
theorem out_eq (m : (ℓ : Loc Cert.KernelIdeal.nD Cert.KernelIdeal.τ Cert.KernelIdeal.sig) → Buf (Elt Ideal) ℓ) (d : Dev Cert.KernelIdeal.nD)
    (V0 : Valuation τ sig (Elt Ideal))
    (h0 : aIds V0 = m (Cert.Proof.lc d Cert.KernelIdeal.main_arg0)) (h1 : aMsgs V0 = m (Cert.Proof.lc d Cert.KernelIdeal.main_arg1))
    (h2 : aTab V0 = m (Cert.Proof.lc d Cert.KernelIdeal.main_arg2)) (h3 : aConv V0 = m (Cert.Proof.lc d Cert.KernelIdeal.main_arg3))
    (h4 : aLin V0 = m (Cert.Proof.lc d Cert.KernelIdeal.main_arg4)) (h5 : aBias V0 = m (Cert.Proof.lc d Cert.KernelIdeal.main_arg5))
    (h6 : aGam V0 = m (Cert.Proof.lc d Cert.KernelIdeal.main_arg6)) (h7 : aBet V0 = m (Cert.Proof.lc d Cert.KernelIdeal.main_arg7))
    (hids : ∀ j, (aIds V0 j).toNat < 100000) :
    Host.scatter theScatter (fun _ b => b) (aTab V0) (wrapped (aIds V0)) (refRows V0) = Cert.Proof.outG m (Cert.Proof.newRows m) d := by
  rw [scatter_eq _ _ hids, ← newRows_eq m d V0 h0 h1 h2 h3 h4 h5 h6 h7 hids, h0, h2]

/-- Every run of either program, from agreeing arguments, ends at the same output. -/
theorem algebraic [Cert.KernelIdeal.Facts] [Cert.ReferenceIdeal.Facts] [Cert.Pre_in_range.Facts] : Cert.algebraic_KernelIdeal_ReferenceIdeal := by
  intro m g m' g' hpre hagree
  refine ⟨fun c => Cert.Proof.outG m (Cert.Proof.newRows m) c, ?_, ?_⟩
  · refine (θ_run _ _ _).mono (fun r h c => ?_) (Cert.Proof.run_main (F := Ideal) m g fun d j => Cert.Proof.in_range_words (hpre d) j)
    obtain ⟨e0, e1, e2, e3, e4, e5, e6, e7, eo⟩ := h.1 c
    exact ⟨eo, e0, e1, e2, e3, e4, e5, e6, e7⟩
  · refine (θ_run _ _ _).mono (fun r h c => ⟨?_, (h c).2⟩) (Cert.ReferenceIdeal.Value.run (F := Ideal) m' g')
    obtain ⟨h0, h1, h2, h3, h4, h5, h6, h7⟩ := hagree c
    refine (h c).1.trans ?_
    exact out_eq m c (launchContents m' c) h0 h1 h2 h3 h4 h5 h6 h7 (fun j => by
      show ((m' ((c.tc : Thread nD τ).loc main_arg0) : S16384.Idx → BitVec 32) j).toNat < 100000
      rw [h0]
      exact Cert.Proof.in_range_words (hpre c) j)

end Cert.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_in_range := fun m ρ _ => frame_reference m ρ trivial

theorem claim : Cert.Claim := ⟨Cert.Kernel.Gen.facts, Cert.KernelIdeal.Gen.facts, Cert.ReferenceIdeal.Gen.facts, Cert.Pre_in_range.Gen.facts,
  frame_kernel, frame_ideal, frame_reference, frame_reference_pre, trivial, Cert.Rows.algebraic⟩

end Cert.Proof

end
